-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S16x256x256 : Shape := ⟨3, ![16, 256, 256]⟩
abbrev S16x256 : Shape := ⟨2, ![16, 256]⟩
abbrev S128x256 : Shape := ⟨2, ![128, 256]⟩
abbrev S256 : Shape := ⟨1, ![256]⟩
abbrev S_ : Shape := ⟨0, ![]⟩
abbrev S1x128x256 : Shape := ⟨3, ![1, 128, 256]⟩
abbrev S16 : Shape := ⟨1, ![16]⟩
abbrev S1x16 : Shape := ⟨2, ![1, 16]⟩
abbrev S1x256 : Shape := ⟨2, ![1, 256]⟩

abbrev nBuf : Table → Nat
  | .hbm => 2
  | .shared => 2
  | .local .scVector .vmem => 6
  | _ => 0

abbrev bufTy : (tb : Table) → Fin (nBuf tb) → BufTy
  | .hbm, ⟨0, _⟩ => ⟨S16x256x256, .f32⟩
  | .hbm, ⟨1, _⟩ => ⟨S16x256, .i32⟩
  | .shared, ⟨0, _⟩ => ⟨S16x256, .f32⟩
  | .shared, ⟨1, _⟩ => ⟨S16x256, .i32⟩
  | .local .scVector .vmem, ⟨0, _⟩ => ⟨S128x256, .f32⟩
  | .local .scVector .vmem, ⟨1, _⟩ => ⟨S256, .f32⟩
  | .local .scVector .vmem, ⟨2, _⟩ => ⟨S256, .i32⟩
  | .local .scVector .vmem, ⟨3, _⟩ => ⟨S256, .f32⟩
  | .local .scVector .vmem, ⟨4, _⟩ => ⟨S256, .i32⟩
  | .local .scVector .vmem, ⟨5, _⟩ => ⟨S256, .i32⟩
  | _, _ => ⟨S16x256x256, .f32⟩

abbrev bufScoped : (cs : CoreSpace) → Fin (nBuf (.local .tc cs)) → Bool
  | _, _ => false

abbrev semScoped : Fin 5 → Bool
  | ⟨0, _⟩ => false
  | ⟨1, _⟩ => false
  | ⟨2, _⟩ => false
  | ⟨3, _⟩ => false
  | ⟨4, _⟩ => false
  | _ => false

abbrev dmaSemScoped : Fin 6 → Bool
  | ⟨0, _⟩ => false
  | ⟨1, _⟩ => false
  | ⟨2, _⟩ => false
  | ⟨3, _⟩ => false
  | ⟨4, _⟩ => false
  | ⟨5, _⟩ => false
  | _ => false

abbrev sig : RefSig :=
  ofTables nBuf rfl bufTy 5 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_arg0_scv : Ref sig .scVector := ⟨.hbm, 0, rfl⟩
abbrev main_v0_scv : Ref sig .scVector := ⟨.hbm, 1, rfl⟩
abbrev cc0_scratch6 : Ref sig .scVector := ⟨.shared, 0, rfl⟩
abbrev cc0_scratch7 : Ref sig .scVector := ⟨.shared, 1, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev sc_start : Sem sig := 0
abbrev sc_done : Sem sig := 1
abbrev sc_go : Sem sig := 2
abbrev sc_taskDone : Sem sig := 3
abbrev sc_bar0 : Sem sig := 4

abbrev nD : Nat := 1
abbrev τ : Topo := Topo.v7x

variable {F : FTy → Type} [FloatOps F]

abbrev grid0 : Pipeline.Grid := ⟨2, ![2, 16], ![false, false]⟩

def k0_off1 (i : grid0.Coords) : Fin 3 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c128_i32 : BitVec 32 := 128#32
  let v29 : BitVec 32 := Scalar.muli v28 c128_i32
  let c0_i32_40_r0 : BitVec 32 := 0#32
  ![v18.toNat, v29.toNat, 0]
@[reducible] def k0_t1_loop : Scf.Loop 32 :=
  let c0_i32_11 : BitVec 32 := 0#32
  let c128_i32_12 : BitVec 32 := 128#32
  let v32 : BitVec 32 := Scalar.addi c0_i32_11 c128_i32_12
  let c1_i32_13 : BitVec 32 := 1#32
  ⟨c0_i32_11, v32, c1_i32_13⟩
def k0_off2 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v143 : Index := Scalar.indexCast v138
  let c0_43 : Index := 0#32
  ![v143.toNat, 0]
def k0_off3 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v149 : Index := Scalar.indexCast v138
  let c16_44 : Index := 16#32
  ![v149.toNat, 16]
def k0_off4 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v155 : Index := Scalar.indexCast v138
  let c32_45 : Index := 32#32
  ![v155.toNat, 32]
def k0_off5 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v161 : Index := Scalar.indexCast v138
  let c48_46 : Index := 48#32
  ![v161.toNat, 48]
def k0_off6 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v167 : Index := Scalar.indexCast v138
  let c64_47 : Index := 64#32
  ![v167.toNat, 64]
def k0_off7 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v173 : Index := Scalar.indexCast v138
  let c80_48 : Index := 80#32
  ![v173.toNat, 80]
def k0_off8 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v179 : Index := Scalar.indexCast v138
  let c96_49 : Index := 96#32
  ![v179.toNat, 96]
def k0_off9 (k0_t1 : Fin k0_t1_loop.trips) : Fin 2 → Nat :=
  let c0_i32_41 : BitVec 32 := 0#32
  let c0_i32_11 : BitVec 32 := 0#32
  let c1_i32_13 : BitVec 32 := 1#32
  let arg12 : BitVec 32 := Scf.iv c0_i32_11 c1_i32_13 k0_t1
  let c1_i32_40 : BitVec 32 := 1#32
  let v137 : BitVec 32 := Scalar.muli arg12 c1_i32_40
  let v138 : BitVec 32 := Scalar.addi c0_i32_41 v137
  let v185 : Index := Scalar.indexCast v138
  let c112_50 : Index := 112#32
  ![v185.toNat, 112]
@[reducible] def k0_t2_loop : Scf.Loop 32 :=
  let c0_i32_25 : BitVec 32 := 0#32
  let c128_i32_26 : BitVec 32 := 128#32
  let v84 : BitVec 32 := Scalar.addi c0_i32_25 c128_i32_26
  let c1_i32_27 : BitVec 32 := 1#32
  ⟨c0_i32_25, v84, c1_i32_27⟩
def k0_off10 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v143 : Index := Scalar.indexCast v138
  let c128_43 : Index := 128#32
  ![v143.toNat, 128]
def k0_off11 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v149 : Index := Scalar.indexCast v138
  let c144_44 : Index := 144#32
  ![v149.toNat, 144]
def k0_off12 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v155 : Index := Scalar.indexCast v138
  let c160_45 : Index := 160#32
  ![v155.toNat, 160]
def k0_off13 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v161 : Index := Scalar.indexCast v138
  let c176_46 : Index := 176#32
  ![v161.toNat, 176]
def k0_off14 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v167 : Index := Scalar.indexCast v138
  let c192_47 : Index := 192#32
  ![v167.toNat, 192]
def k0_off15 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v173 : Index := Scalar.indexCast v138
  let c208_48 : Index := 208#32
  ![v173.toNat, 208]
def k0_off16 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v179 : Index := Scalar.indexCast v138
  let c224_49 : Index := 224#32
  ![v179.toNat, 224]
def k0_off17 (k0_t2 : Fin k0_t2_loop.trips) : Fin 2 → Nat :=
  let c0_i32_41 : BitVec 32 := 0#32
  let c0_i32_25 : BitVec 32 := 0#32
  let c1_i32_27 : BitVec 32 := 1#32
  let arg12 : BitVec 32 := Scf.iv c0_i32_25 c1_i32_27 k0_t2
  let c1_i32_40 : BitVec 32 := 1#32
  let v137 : BitVec 32 := Scalar.muli arg12 c1_i32_40
  let v138 : BitVec 32 := Scalar.addi c0_i32_41 v137
  let v185 : Index := Scalar.indexCast v138
  let c240_50 : Index := 240#32
  ![v185.toNat, 240]
def k0_off18 (i : grid0.Coords) : Fin 2 → Nat :=
  let arg1 : BitVec 32 := BitVec.ofNat 32 (i 1).val
  let c0_i32_40_r1 : BitVec 32 := 0#32
  ![arg1.toNat, 0]
def k0_cond1 (i : grid0.Coords) : BitVec 1 :=
  let arg1 : BitVec 32 := BitVec.ofNat 32 (i 1).val
  let c2_i32_4 : BitVec 32 := 2#32
  let c0_i32_5 : BitVec 32 := 0#32
  let v19 : BitVec 1 := Scalar.cmpi .eq c2_i32_4 c0_i32_5
  let c1_i32_6 : BitVec 32 := 1#32
  let v20 : BitVec 32 := Scalar.select v19 c1_i32_6 c2_i32_4
  let v21 : BitVec 32 := Scalar.remsi arg1 v20
  let c0_i32_8 : BitVec 32 := 0#32
  let v23 : BitVec 1 := Scalar.cmpi .slt v21 c0_i32_8
  let c0_i32_9 : BitVec 32 := 0#32
  let v24 : BitVec 1 := Scalar.cmpi .slt v20 c0_i32_9
  let v25 : BitVec 1 := Scalar.xori v23 v24
  let c0_i32_7 : BitVec 32 := 0#32
  let v22 : BitVec 1 := Scalar.cmpi .ne v21 c0_i32_7
  let v26 : BitVec 1 := Scalar.andi v25 v22
  let v27 : BitVec 32 := Scalar.addi v21 v20
  let v28 : BitVec 32 := Scalar.select v26 v27 v21
  let c0_i32_38 : BitVec 32 := 0#32
  let v134 : BitVec 1 := Scalar.cmpi .eq v28 c0_i32_38
  let v135 : BitVec 32 := Scalar.extui v134
  let c0_i32_39 : BitVec 32 := 0#32
  let v136 : BitVec 1 := Scalar.cmpi .ne v135 c0_i32_39
  v136

def k0_off19 (i : grid0.Coords) : Fin 2 → Nat :=
  let arg1 : BitVec 32 := BitVec.ofNat 32 (i 1).val
  let c1_i32_40 : BitVec 32 := 1#32
  let v137 : BitVec 32 := Scalar.addi arg1 c1_i32_40
  let c0_i32_122_r3 : BitVec 32 := 0#32
  ![v137.toNat, 0]
def k0_off20 (i : grid0.Coords) : Fin 2 → Nat :=
  let arg0 : BitVec 32 := BitVec.ofNat 32 (i 0).val
  let c8_i32 : BitVec 32 := 8#32
  let v0 : BitVec 32 := Scalar.muli arg0 c8_i32
  let arg1 : BitVec 32 := BitVec.ofNat 32 (i 1).val
  let c0_i32 : BitVec 32 := 0#32
  let v2 : BitVec 1 := Scalar.cmpi .sgt arg1 c0_i32
  let v3 : BitVec 32 := Scalar.extui v2
  let c0_i32_0 : BitVec 32 := 0#32
  let v4 : BitVec 1 := Scalar.cmpi .slt arg1 c0_i32_0
  let v5 : BitVec 32 := Scalar.extui v4
  let v6 : BitVec 32 := Scalar.subi v3 v5
  let c2_i32 : BitVec 32 := 2#32
  let c0_i32_1 : BitVec 32 := 0#32
  let v7 : BitVec 1 := Scalar.cmpi .sgt c2_i32 c0_i32_1
  let v8 : BitVec 32 := Scalar.extui v7
  let c0_i32_2 : BitVec 32 := 0#32
  let v9 : BitVec 1 := Scalar.cmpi .slt c2_i32 c0_i32_2
  let v10 : BitVec 32 := Scalar.extui v9
  let v11 : BitVec 32 := Scalar.subi v8 v10
  let v12 : BitVec 1 := Scalar.cmpi .ne v6 v11
  let v13 : BitVec 32 := Scalar.remsi arg1 c2_i32
  let c0_i32_3 : BitVec 32 := 0#32
  let v14 : BitVec 1 := Scalar.cmpi .ne v13 c0_i32_3
  let v15 : BitVec 1 := Scalar.andi v12 v14
  let v1 : BitVec 32 := Scalar.divsi arg1 c2_i32
  let c1_i32 : BitVec 32 := 1#32
  let v16 : BitVec 32 := Scalar.subi v1 c1_i32
  let v17 : BitVec 32 := Scalar.select v15 v16 v1
  let v18 : BitVec 32 := Scalar.addi v0 v17
  let c0_i32_122_r5 : BitVec 32 := 0#32
  ![v18.toNat, 0]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S16x256x256 : Shape := ⟨3, ![16, 256, 256]⟩
abbrev S_ : Shape := ⟨0, ![]⟩
abbrev S16x256 : Shape := ⟨2, ![16, 256]⟩

abbrev nBuf : Space → Nat
  | .hbm => 6
  | .vmem => 0
  | .smem => 0
  | _ => 0

abbrev bufTy : (tb : Table) → Fin (tcTables nBuf tb) → BufTy
  | .hbm, ⟨0, _⟩ => ⟨S16x256x256, .f32⟩
  | .hbm, ⟨1, _⟩ => ⟨S16x256x256, .i32⟩
  | .hbm, ⟨2, _⟩ => ⟨S_, .f32⟩
  | .hbm, ⟨3, _⟩ => ⟨S_, .i32⟩
  | .hbm, ⟨4, _⟩ => ⟨S16x256, .f32⟩
  | .hbm, ⟨5, _⟩ => ⟨S16x256, .i32⟩
  | _, _ => ⟨S16x256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_call0_v0 : Ref sig .tc := ⟨.hbm, 1, rfl⟩
abbrev main_call0_cst : Ref sig .tc := ⟨.hbm, 2, rfl⟩
abbrev main_call0_c : Ref sig .tc := ⟨.hbm, 3, rfl⟩
abbrev main_call0_v1_0 : Ref sig .tc := ⟨.hbm, 4, rfl⟩
abbrev main_v0 : Ref sig .tc := ⟨.hbm, 5, rfl⟩

abbrev nD : Nat := 1
abbrev τ : Topo := Topo.v7x

variable {F : FTy → Type} [FloatOps F]
-- ==== Proof.Scan.lean ====
/-
  The numbers the kernel computes, over any floats.

  A tile walks 128 rows of one batch and keeps, for every column, the largest entry met so far and the row where it was
  met first: `scan`. Two tiles share a batch, one for each half of its rows (`half`); `out` is what the tile of the first
  half makes of both answers, and `result` is the kernel's whole result.
-/
module

public import proofs.«01_k».proof.Defs
public import Idealize.ShloMosaic.Lib.ValueIdxCore

@[expose] public section

noncomputable section

namespace Cert.Proof.Scan

open Cert.KernelIdeal
open Idealize.ShloMosaic
open Idealize.ShloMosaic.ValueIdx

variable {F : FTy → Type} [FloatOps F]

/-- The largest of the first `k` entries of `col` and the place of the first one that is so large, places counted from
    `base`; at the start minus infinity and place 0. -/
def scan (col : ℕ → F .f32) (base : ℕ) : ℕ → F .f32 × BitVec 32
  | 0 => (Scalar.ofBits .f32 0xFF800000#32, 0#32)
  | k + 1 =>
    (FloatOps.maximumf (col k) (scan col base k).1,
      Scalar.select (FloatOps.cmpf .ogt (col k) (scan col base k).1) (BitVec.ofNat 32 (base + k)) (scan col base k).2)

/-- The rows of half `h` of batch `b`, as a tile's own copy of them. -/
def rows (x : S16x256x256.Idx → F .f32) (b h : ℕ) : S128x256.Idx → F .f32 := fun y =>
  x (ix3 ⟨b % 16, Nat.mod_lt _ (by decide)⟩ ⟨(128 * h + (y 0).val) % 256, Nat.mod_lt _ (by decide)⟩ (y 1))

/-- Column `c` of a tile's copy, row by row. -/
def column (f : S128x256.Idx → F .f32) (c : Fin 256) (k : ℕ) : F .f32 := f (ix2 ⟨k % 128, Nat.mod_lt _ (by decide)⟩ c)

/-- The answer for column `c` of half `h` of batch `b`. -/
def half (x : S16x256x256.Idx → F .f32) (b h : ℕ) (c : Fin 256) : F .f32 × BitVec 32 :=
  scan (column (rows x b h) c) (128 * h) 128

/-- The place of the maximum of column `c` of batch `b`: the second half's if its maximum is the greater one. -/
def out (x : S16x256x256.Idx → F .f32) (b : ℕ) (c : Fin 256) : BitVec 32 :=
  Scalar.select (FloatOps.cmpf .ogt (half x b 1 c).1 (half x b 0 c).1) (half x b 1 c).2 (half x b 0 c).2

/-- The kernel's result. -/
def result (x : S16x256x256.Idx → F .f32) : S16x256.Idx → BitVec 32 := fun y => out x (y 0).val (y 1)

/-- What core `c`'s tiles leave in the maxima they share: row `i` tile `i`'s. -/
def sharedMax (x : S16x256x256.Idx → F .f32) (c : ℕ) : S16x256.Idx → F .f32 := fun y =>
  (half x (8 * c + (y 0).val / 2) ((y 0).val % 2) (y 1)).1

/-- What they leave in the places they share. -/
def sharedIdx (x : S16x256x256.Idx → F .f32) (c : ℕ) : S16x256.Idx → BitVec 32 := fun y =>
  (half x (8 * c + (y 0).val / 2) ((y 0).val % 2) (y 1)).2

/-! ## The sixteen columns of a group -/

/-- Column `16 g + j`, the `j`-th of group `g`. -/
def lane (g : ℕ) (j : S16.Idx) : Fin 256 := ⟨(16 * g + (j 0).val) % 256, Nat.mod_lt _ (by decide)⟩

/-- The maxima of group `g`'s columns over the first `k` rows, and their places. -/
def maxes (f : S128x256.Idx → F .f32) (base g k : ℕ) : FVec F S16 .f32 := fun j => (scan (column f (lane g j)) base k).1
def places (f : S128x256.Idx → F .f32) (base g k : ℕ) : IVec S16 32 := fun j => (scan (column f (lane g j)) base k).2

/-- One more row, on the maxima: `v` is row `k` of the group. -/
theorem maxes_succ (f : S128x256.Idx → F .f32) (base g k : ℕ) (v : FVec F S16 .f32) (hv : ∀ j, v j = column f (lane g j) k) :
    maximumf v (maxes f base g k) = maxes f base g (k + 1) := funext fun j => by
  show FloatOps.maximumf (v j) _ = _
  rw [hv]; rfl

/-- And on the places: `w` holds the row's place throughout. -/
theorem places_succ (f : S128x256.Idx → F .f32) (base g k : ℕ) (v : FVec F S16 .f32) (w : IVec S16 32)
    (hv : ∀ j, v j = column f (lane g j) k) (hw : ∀ j, w j = BitVec.ofNat 32 (base + k)) :
    select (cmpf .ogt v (maxes f base g k)) w (places f base g k) = places f base g (k + 1) := funext fun j => by
  show Scalar.select (FloatOps.cmpf .ogt (v j) _) (w j) _ = _
  rw [hv, hw]; rfl

end Cert.Proof.Scan

end
-- ==== Proof.Setup.lean ====
/-
  The kernel's one SparseCore call as the launch theorem sees it, and what its handshakes carry.

  Thirty-two tiles run it, sixteen on each of two SparseCores. Tile `i` of core `c` reads one half of batch `8 c + i / 2`
  (the first half if `i` is even), leaves its answers in row `i` of its SparseCore's two shared arrays, and meets the other
  tiles of its SparseCore at the barrier. There an odd tile hands its two rows to the even tile before it, AT the values
  they hold; the even tile combines both halves and writes the batch's row of the result.
-/
module

public import proofs.«01_k».proof.Proof.Scan
public import proofs.«01_k».proof.Proof.Gen.KernelIdeal
public import proofs.«01_k».proof.Proof.Gen.KernelIdeal.Skeleton
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.Proof.Run

open Cert.KernelIdeal Cert.KernelIdeal.Gen Cert.Proof.Scan

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program -/

abbrev ΛP : Labels := Pipeline.Sig Λ₀ (Fin 0) fun p => (pcfgs (F := F) p).Adm
abbrev K : SparseCore.Cfg τ sig (ΛP (F := F)) 1 := sc (F := F)
theorem nSub_zero : (K (F := F)).nSub 0 = 16 := rfl
theorem nCore_zero : (K (F := F)).nCore 0 = 2 := rfl
/-- The SparseCore of the call's core number `c`. -/
abbrev coreOf (c : Fin ((K (F := F)).nCore 0)) : Fin τ.nSC := (K (F := F)).core 0 c
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra: the handshakes' rounds, the barrier's, the transfers' counters -/

abbrev UH : Type := URounds (GSem nD τ sig) ℕ
abbrev UB : Type := URounds (GSem nD τ sig) ℕ
abbrev UU : Type := UH × (UB × Counters)

local notation "𝕄" => MT nD τ sig (HIx 1) (Elt F) ℕ UU ℕ

abbrev EH : Emb UH (MT nD τ sig (HIx 1) (Elt F) ℕ UU ℕ) := embL
/-- Where the barrier cells' rounds live. -/
def EB : Emb UB (MT nD τ sig (HIx 1) (Elt F) ℕ UU ℕ) :=
  ((Emb.inl : Emb UB (UB × Counters)).trans (Emb.inr : Emb (UB × Counters) UU)).trans
    (uEmb (nD := nD) (sig := sig) (Ix := HIx 1) (Val := Elt F) (Name := ℕ) (U := UU) (Lvl := ℕ)).toEmb
instance EB_landsIn : (EB : Emb UB 𝕄).LandsIn (upEmb : UEmb _ 𝕄) := by unfold EB; infer_instance

/-! ## The buffers, and the pieces of them a tile works on -/

variable (m : (ℓ : Loc nD τ sig) → Buf (Elt F) ℓ) (ρ : Dev nD → PrngReg)

abbrev xLoc (d : Dev nD) : Loc nD τ sig := (SparseCore.T d).loc main_arg0
abbrev oLoc (d : Dev nD) : Loc nD τ sig := (SparseCore.T d).loc main_v0
/-- SparseCore `c`'s two shared arrays, as every tile of it addresses them. -/
abbrev maxRef (c : Fin τ.nSC) : DevRef τ sig := ⟨.shared, ⟨0, by decide⟩, c⟩
abbrev idxRef (c : Fin τ.nSC) : DevRef τ sig := ⟨.shared, ⟨1, by decide⟩, c⟩
abbrev maxLoc (d : Dev nD) (c : Fin τ.nSC) : Loc nD τ sig := (d, maxRef c)
abbrev idxLoc (d : Dev nD) (c : Fin τ.nSC) : Loc nD τ sig := (d, idxRef c)

/-- The part of the input that tile `i` of core `c` reads. -/
def xSet (c i : ℕ) : Finset S16x256x256.Idx := Finset.univ.filter fun y => (y 0).val = 8 * c + i / 2 ∧ (y 1).val / 128 = i % 2
/-- The part of the result that it writes: a row if it is an even tile, else nothing. -/
def oSet (c i : ℕ) : Finset S16x256.Idx := Finset.univ.filter fun y => i % 2 = 0 ∧ (y 0).val = 8 * c + i / 2
/-- Row `i` of a shared array. -/
def rowSet (i : ℕ) : Finset S16x256.Idx := Finset.univ.filter fun y => (y 0).val = i
/-- What a tile holds of a shared array at its end: both rows of its pair if it is an even tile, else nothing. -/
def endSet (i : ℕ) : Finset S16x256.Idx := Finset.univ.filter fun y => i % 2 = 0 ∧ (y 0).val / 2 = i / 2

theorem mem_xSet {c i : ℕ} {y : S16x256x256.Idx} : y ∈ xSet c i ↔ (y 0).val = 8 * c + i / 2 ∧ (y 1).val / 128 = i % 2 := by
  simp only [xSet, Finset.mem_filter, Finset.mem_univ, true_and]
theorem mem_oSet {c i : ℕ} {y : S16x256.Idx} : y ∈ oSet c i ↔ i % 2 = 0 ∧ (y 0).val = 8 * c + i / 2 := by
  simp only [oSet, Finset.mem_filter, Finset.mem_univ, true_and]
theorem mem_rowSet {i : ℕ} {y : S16x256.Idx} : y ∈ rowSet i ↔ (y 0).val = i := by
  simp only [rowSet, Finset.mem_filter, Finset.mem_univ, true_and]
theorem mem_endSet {i : ℕ} {y : S16x256.Idx} : y ∈ endSet i ↔ i % 2 = 0 ∧ (y 0).val / 2 = i / 2 := by
  simp only [endSet, Finset.mem_filter, Finset.mem_univ, true_and]

variable [FloatOps F]

/-! ## The barrier cells -/

/-- Tile `(c, j)`'s barrier semaphore. -/
abbrev bcell (d : Dev nD) (c : Fin τ.nSC) (j : Fin τ.nSub) : GSem nD τ sig := (V d c j, .reg sc_bar0)

omit [FloatOps F] in
theorem sc_bar0_ne_go : (sc_bar0 : Sem sig) ≠ sc_go := by decide

def isBar (g : GSem nD τ sig) : Bool :=
  match g with
  | ((_, .scVector _ _), sm) => decide (sm = .reg sc_bar0)
  | _ => false

omit [FloatOps F] in
@[simp] theorem isBar_bcell (d : Dev nD) (c : Fin τ.nSC) (j : Fin τ.nSub) : isBar (bcell d c j) = true := by simp [isBar]

/-- Row `i` of both shared arrays, holding the answers of the tile of that number. -/
def answers (d : Dev nD) (c : Fin τ.nSC) (i : ℕ) : sProp 𝕄 :=
  iprop((maxLoc d c ↦[rowSet i]{fullShare} sharedMax (m (xLoc d)) c.val) ∗ (idxLoc d c ↦[rowSet i]{fullShare} sharedIdx (m (xLoc d)) c.val))

/-- What a duty in tile `j`'s round hands over: if `j` is even, the next tile's its two rows; every other one nothing. -/
def bPay (g : GSem nD τ sig) (n : ℕ) : sProp 𝕄 :=
  match g with
  | ((d, .scVector c j), _) => if j.val % 2 = 0 ∧ n = j.val + 1 then answers m d c n else iprop(emp)
  | _ => iprop(emp)

/-- The barrier cells' schedule: one round on each, of one unit duty per tile of the SparseCore (named by its number). -/
def bRd : Rounds.Schedule (GSem nD τ sig) ℕ 𝕄 where
  duties g r := if isBar g ∧ r = 0 then (Finset.univ : Finset (Fin τ.nSub)).image Fin.val else ∅
  amount _ _ _ := 1
  payload g _ n := bPay m g n
  amount_pos _ _ _ _ := Nat.one_pos

instance answers_storable (d : Dev nD) (c : Fin τ.nSC) (i : ℕ) : BI.Storable (upEmb : UEmb _ 𝕄) (answers m d c i) := by
  unfold answers; infer_instance

instance bRd_payload_storable (g : GSem nD τ sig) (r n : ℕ) : BI.Storable (upEmb : UEmb _ 𝕄) ((bRd m).payload g r n) := by
  show BI.Storable upEmb (bPay m g n)
  unfold bPay
  rcases g with ⟨⟨d, _ | c | ⟨c, i⟩⟩, sm⟩ <;> dsimp only <;> (repeat' split) <;> infer_instance

omit [FloatOps F] in
theorem bigSep_emp' {I : Type} (s : Finset I) : (bigSep s fun _ => iprop(emp)) = (iprop(emp) : sProp 𝕄) := bigSep_emp_const s

theorem bRd_duties₀ (d : Dev nD) (c : Fin τ.nSC) (j : Fin τ.nSub) : (bRd m).duties (bcell d c j) 0 = (Finset.univ : Finset (Fin τ.nSub)).image Fin.val := by
  simp [bRd, isBar]
theorem bRd_duties_succ (g : GSem nD τ sig) (r : ℕ) (hr : 1 ≤ r) : (bRd m).duties g r = ∅ :=
  if_neg fun h => absurd h.2 (Nat.ne_of_gt hr)
theorem bRd_mem₀ (d : Dev nD) (c : Fin τ.nSC) (j i : Fin τ.nSub) : i.val ∈ (bRd m).duties (bcell d c j) 0 := by
  rw [bRd_duties₀]; exact Finset.mem_image_of_mem _ (Finset.mem_univ i)
theorem bRd_expect (d : Dev nD) (c : Fin τ.nSC) (j : Fin τ.nSub) : 0 + grid0.bound 1 = (bRd m).expect (bcell d c j) 0 := by
  unfold Rounds.Schedule.expect; rw [bRd_duties₀]
  show 0 + 16 = ∑ x ∈ (Finset.univ : Finset (Fin 16)).image Fin.val, 1
  rw [Finset.sum_const, Finset.card_image_of_injective _ Fin.val_injective]; rfl

/-- What a tile owes for the barrier: a unit on every tile's cell of its SparseCore, at the call's index. -/
def oxV (d : Dev nD) (c : Fin τ.nSC) : CellTallies nD τ sig (HIx 1) := ∑ j : Fin (grid0.bound 1), tallyAt (bcell d c (j.castLE hsub0)) (some 0) 1

omit [FloatOps F] in
theorem oxV_none (d : Dev nD) (c : Fin τ.nSC) (g : GSem nD τ sig) : oxV d c g none = 0 := by
  unfold oxV
  rw [Finset.sum_apply, Finsupp.finsetSum_apply]
  exact Finset.sum_eq_zero fun j _ => by rw [tallyAt_apply, if_neg (fun e => nomatch e.2)]

omit [FloatOps F] in
theorem oxV_apply_pos {d : Dev nD} {c : Fin τ.nSC} {g : GSem nD τ sig} {ι : HIx 1} (h : 0 < oxV d c g ι) : ∃ j : Fin (grid0.bound 1), g = bcell d c (j.castLE hsub0) ∧ ι = some 0 := by
  unfold oxV at h
  rw [Finset.sum_apply, Finsupp.finsetSum_apply] at h
  obtain ⟨j, -, hj⟩ := Finset.exists_ne_zero_of_sum_ne_zero (Nat.pos_iff_ne_zero.mp h)
  rw [tallyAt_apply] at hj
  split at hj
  · next e => exact ⟨j, e.1, e.2⟩
  · exact absurd rfl hj

/-- Tile `(c, i)`'s barrier kit: every cell invariant of its SparseCore and that each has reached round 0, its own position
    at the start of round 0, its duty token in every tile's round 0, and the credit for its own round's units. -/
def bkit (d : Dev nD) (c : Fin τ.nSC) (i : Fin τ.nSub) : sProp 𝕄 :=
  iprop((∃ κ : GSem nD τ sig → ℕ, bigSep Finset.univ fun j : Fin (grid0.bound 1) =>
      cellInv EB (bRd m) (κ (bcell d c (j.castLE hsub0))) (bcell d c (j.castLE hsub0)))
    ∗ (bigSep Finset.univ fun j : Fin (grid0.bound 1) => dutyTok EB (bcell d c (j.castLE hsub0)) 0 i.val)
    ∗ (bigSep Finset.univ fun j : Fin (grid0.bound 1) => reached EB (bcell d c (j.castLE hsub0)) 0)
    ∗ atPos EB (bcell d c i) 0 ∅ 0
    ∗ cred (tallyAt (bcell d c i) (some 0) (grid0.bound 1)))

/-! ## What the handshakes carry -/

/-- The input whole, and the result whole at some contents. -/
abbrev xPts (d : Dev nD) : sProp 𝕄 := xLoc d ↦{fullShare} m (xLoc d)
abbrev oPts (d : Dev nD) (f : Buf (Elt F) (oLoc d)) : sProp 𝕄 := oLoc d ↦{fullShare} f
/-- A tile's part of each. -/
abbrev xPart (d : Dev nD) (c i : ℕ) : sProp 𝕄 := xLoc d ↦[xSet c i]{fullShare} m (xLoc d)
abbrev oPart (d : Dev nD) (c i : ℕ) (f : Buf (Elt F) (oLoc d)) : sProp 𝕄 := oLoc d ↦[oSet c i]{fullShare} f
/-- The result the kernel leaves. -/
abbrev goal (d : Dev nD) : Buf (Elt F) (oLoc d) := result (m (xLoc d))
/-- Part of both shared arrays, whatever they hold. -/
abbrev shPart (d : Dev nD) (c : Fin τ.nSC) (I : Finset S16x256.Idx) : sProp 𝕄 :=
  iprop((∃ f, maxLoc d c ↦[I]{fullShare} f) ∗ (∃ f, idxLoc d c ↦[I]{fullShare} f))
/-- Core `c`'s sixteen parts of the input, and of the result. -/
abbrev xCore (d : Dev nD) (c : ℕ) : sProp 𝕄 := bigSep Finset.univ fun i : Fin 16 => xPart m d c i.val
abbrev oCore (d : Dev nD) (c : ℕ) (f : Buf (Elt F) (oLoc d)) : sProp 𝕄 := bigSep Finset.univ fun i : Fin 16 => oPart d c i.val f
/-- The barrier semaphores of SparseCore `c`, at zero. -/
abbrev bars (d : Dev nD) (c : Fin τ.nSC) : sProp 𝕄 :=
  bigSep Finset.univ fun i : Fin ((K (F := F)).nSub 0) => semVal (bcell d c ((K (F := F)).sub 0 i)) 0

/-- What a tile's task starts from, beside its barrier kit and its own buffers, and what it leaves. -/
abbrev taskIn (d : Dev nD) (c : Fin τ.nSC) (i : ℕ) : sProp 𝕄 :=
  iprop(xPart m d c.val i ∗ oPart d c.val i (m (oLoc d)) ∗ shPart d c (rowSet i))
abbrev taskOut (d : Dev nD) (c : Fin τ.nSC) (i : ℕ) : sProp 𝕄 :=
  iprop(xPart m d c.val i ∗ oPart d c.val i (goal m d) ∗ shPart d c (endSet i))

set_option backward.proofsInPublic true in
/-- The call takes each core its parts of the input and of the result and brings them back, the result's at the kernel's
    values, with the core's barrier semaphores closed at zero; each tile is handed its parts and its own row of the shared
    arrays; each tile's proof consumes its barrier kit and owes its arrivals. -/
def P : (K (F := F)).Pay (nD := nD) (Val := Elt F) (Name := ℕ) (U := UU) where
  st := fun q d c => match q with | 0 => iprop(xCore m d (coreOf c).val ∗ oCore d (coreOf c).val (m (oLoc d)))
  dn := fun q d c => match q with | 0 => iprop((xCore m d (coreOf c).val ∗ oCore d (coreOf c).val (goal m d)) ∗ bars d (coreOf c))
  go := fun q d c i => match q with | 0 => taskIn m d (coreOf c) (Fin.cast nSub_zero i).val
  td := fun q d c i => match q with
    | 0 => iprop(taskOut m d (coreOf c) (Fin.cast nSub_zero i).val ∗ semVal (bcell d (coreOf c) ((K (F := F)).sub 0 i)) 0)
  x := fun _ thr => match thr with
    | (d, .scVector c i) => bkit m d c i
    | _ => iprop(emp)
  ox := fun _ thr => match thr with
    | (d, .scVector c _) => oxV d c
    | _ => 0
  ox_band := by
    intro q thr g ι h
    obtain rfl : q = 0 := Subsingleton.elim _ _
    rcases thr with ⟨d, _ | c | ⟨c, i⟩⟩
    · exact absurd h (lt_irrefl 0)
    · exact absurd h (lt_irrefl 0)
    · obtain ⟨j, rfl, rfl⟩ := oxV_apply_pos h
      rw [(K (F := F)).lev_V_reg d c (j.castLE hsub0) (show (sc_bar0 : Sem sig) ≠ (K (F := F)).go from sc_bar0_ne_go)]; exact ⟨le_rfl, by decide⟩
  ox_tc := fun _ _ => rfl
  ox_sc := fun _ _ _ h => absurd rfl h
  ox_vc := by
    intro q d c i _
    obtain rfl : q = 0 := Subsingleton.elim _ _
    exact ⟨rfl, c.isLt, i.isLt⟩

instance P_storable : (P m).IsStorable where
  st q d c := match q with
    | 0 => (inferInstance : BI.Storable (upEmb : UEmb _ 𝕄) iprop(xCore m d (coreOf c).val ∗ oCore d (coreOf c).val (m (oLoc d))))
  dn q d c := match q with
    | 0 => (inferInstance : BI.Storable (upEmb : UEmb _ 𝕄) iprop((xCore m d (coreOf c).val ∗ oCore d (coreOf c).val (goal m d)) ∗ bars d (coreOf c)))
  go q d c i := match q with
    | 0 => (inferInstance : BI.Storable (upEmb : UEmb _ 𝕄) (taskIn m d (coreOf c) (Fin.cast nSub_zero i).val))
  td q d c i := match q with
    | 0 => (inferInstance : BI.Storable (upEmb : UEmb _ 𝕄) iprop(taskOut m d (coreOf c) (Fin.cast nSub_zero i).val ∗ semVal _ 0))

end Cert.Proof.Run

end
-- ==== Proof.Views.lean ====
/-
  The memory a tile addresses: which elements each of its windows onto the large arrays covers, and what a copy through
  such a window leaves.
-/
module

public import proofs.«01_k».proof.Proof.Setup
public import Idealize.ShloMosaic.Lib.ValueLayout
public import Idealize.ShloMosaic.Lib.Writes

@[expose] public section

noncomputable section

namespace Cert.Proof.Run

open Cert.KernelIdeal Cert.KernelIdeal.Gen Cert.Proof.Scan

open Idealize.ShloMosaic
open Idealize.ShloMosaic.SparseCore (S V T)
open Idealize.ShloMosaic.SparseCore.Cfg (HIx ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type}

local notation "𝕄" => MT nD τ sig (HIx 1) (Elt F) ℕ UU ℕ

/-! ## The buffers by name -/

abbrev xV : Memref sig .scVector .hbm S16x256x256 .f32 := Memref.whole main_arg0_scv
abbrev oV : Memref sig .scVector .hbm S16x256 .i32 := Memref.whole main_v0_scv
abbrev bufV : Memref sig .scVector .vmem S128x256 .f32 := Memref.whole cc0_scratch0
abbrev maxV : Memref sig .scVector .vmem S256 .f32 := Memref.whole cc0_scratch1
abbrev idxV : Memref sig .scVector .vmem S256 .i32 := Memref.whole cc0_scratch2
abbrev pmaxV : Memref sig .scVector .vmem S256 .f32 := Memref.whole cc0_scratch3
abbrev pidxV : Memref sig .scVector .vmem S256 .i32 := Memref.whole cc0_scratch4
abbrev resV : Memref sig .scVector .vmem S256 .i32 := Memref.whole cc0_scratch5
abbrev shMaxV : Memref sig .scVector .shared S16x256 .f32 := Memref.whole cc0_scratch6
abbrev shIdxV : Memref sig .scVector .shared S16x256 .i32 := Memref.whole cc0_scratch7

abbrev cV (L : grid0.Coords) : Fin τ.nSC := (L 0).castLE hcore0
abbrev jV (L : grid0.Coords) : Fin τ.nSub := (L 1).castLE hsub0

/-! ## Closed forms of the offsets -/

theorem off1_eq : ∀ L : grid0.Coords, k0_off1 L = ![8 * (L 0).val + (L 1).val / 2, (L 1).val % 2 * 128, 0] := by decide +kernel
instance closedOff_off1 (L : grid0.Coords) : ClosedOff (k0_off1 L) := ⟨![8 * (L 0).val + (L 1).val / 2, (L 1).val % 2 * 128, 0], off1_eq L⟩
theorem off20_eq : ∀ L : grid0.Coords, k0_off20 L = ![8 * (L 0).val + (L 1).val / 2, 0] := by decide +kernel
instance closedOff_off20 (L : grid0.Coords) : ClosedOff (k0_off20 L) := ⟨![8 * (L 0).val + (L 1).val / 2, 0], off20_eq L⟩
/-- The branch is taken by the even tiles. -/
theorem cond1_iff : ∀ L : grid0.Coords, k0_cond1 L = 1#1 ↔ (L 1).val % 2 = 0 := by decide +kernel

/-! ## The windows -/

abbrev xWin (L : grid0.Coords) : Memref sig .scVector .hbm S128x256 .f32 :=
  ((xV).slice (Rect.unit (s := S16x256x256) (k0_off1 L) S1x128x256.size (k0_off1_inb L)) (fun _ => rfl)).squeeze S128x256 squeezes_S1x128x256_S128x256
abbrev shMaxWin (L : grid0.Coords) : Memref sig .scVector .shared S256 .f32 :=
  ((shMaxV).slice (Rect.unit (s := S16x256) (k0_off18 L) S1x256.size (k0_off18_inb L)) (fun _ => rfl)).squeeze S256 squeezes_S1x256_S256
abbrev shIdxWin (L : grid0.Coords) : Memref sig .scVector .shared S256 .i32 :=
  ((shIdxV).slice (Rect.unit (s := S16x256) (k0_off18 L) S1x256.size (k0_off18_inb L)) (fun _ => rfl)).squeeze S256 squeezes_S1x256_S256
abbrev shMaxWin2 (L : grid0.Coords) (h : k0_cond1 L = 1#1) : Memref sig .scVector .shared S256 .f32 :=
  ((shMaxV).slice (Rect.unit (s := S16x256) (k0_off19 L) S1x256.size (k0_off19_inb L h)) (fun _ => rfl)).squeeze S256 squeezes_S1x256_S256
abbrev shIdxWin2 (L : grid0.Coords) (h : k0_cond1 L = 1#1) : Memref sig .scVector .shared S256 .i32 :=
  ((shIdxV).slice (Rect.unit (s := S16x256) (k0_off19 L) S1x256.size (k0_off19_inb L h)) (fun _ => rfl)).squeeze S256 squeezes_S1x256_S256
abbrev oWin (L : grid0.Coords) (h : k0_cond1 L = 1#1) : Memref sig .scVector .hbm S256 .i32 :=
  ((oV).slice (Rect.unit (s := S16x256) (k0_off20 L) S1x256.size (k0_off20_inb L h)) (fun _ => rfl)).squeeze S256 squeezes_S1x256_S256

theorem set_xWin (L : grid0.Coords) : (xWin L).view.set = xSet (L 0).val (L 1).val := by
  show (((xV).view.slice (Rect.unit (s := S16x256x256) (k0_off1 L) S1x128x256.size (k0_off1_inb L))).reshape S128x256 squeezes_S1x128x256_S128x256.numel_eq).set = _
  rw [View.set_reshape, View.set_slice]
  refine Finset.map_refl.trans (Finset.ext fun y => ?_)
  rw [Rect.mem_set_unit, mem_xSet]
  have h2 := (y 2).isLt
  constructor
  · intro h
    have h0 := h 0; have h1 := h 1
    rw [off1_eq] at h0 h1
    simp at h0 h1
    omega
  · intro h a
    rw [off1_eq]
    fin_cases a <;> simp <;> first | omega | exact h2

/-- A window onto one row of a two-axis array covers the row. -/
theorem set_rowWin (off : Fin 2 → ℕ) (inb : ∀ a, off a + S1x256.size a ≤ S16x256.size a) (i : ℕ) (h : off = ![i, 0]) :
    (Rect.unit (s := S16x256) off S1x256.size inb).set = rowSet i := by
  subst h
  refine Finset.ext fun y => ?_
  rw [Rect.mem_set_unit, mem_rowSet]
  have h1 := (y 1).isLt
  constructor
  · intro h
    have h0 := h 0
    simp at h0
    omega
  · intro h a
    fin_cases a <;> simp <;> first | omega | exact h1

theorem set_shMaxWin (L : grid0.Coords) : (shMaxWin L).view.set = rowSet (L 1).val := by
  show (((shMaxV).view.slice (Rect.unit (s := S16x256) (k0_off18 L) S1x256.size (k0_off18_inb L))).reshape S256 squeezes_S1x256_S256.numel_eq).set = _
  rw [View.set_reshape, View.set_slice]
  exact Finset.map_refl.trans (set_rowWin _ _ _ (k0_off18_eq L))
theorem set_shIdxWin (L : grid0.Coords) : (shIdxWin L).view.set = rowSet (L 1).val := by
  show (((shIdxV).view.slice (Rect.unit (s := S16x256) (k0_off18 L) S1x256.size (k0_off18_inb L))).reshape S256 squeezes_S1x256_S256.numel_eq).set = _
  rw [View.set_reshape, View.set_slice]
  exact Finset.map_refl.trans (set_rowWin _ _ _ (k0_off18_eq L))
theorem set_shMaxWin2 (L : grid0.Coords) (h : k0_cond1 L = 1#1) : (shMaxWin2 L h).view.set = rowSet ((L 1).val + 1) := by
  show (((shMaxV).view.slice (Rect.unit (s := S16x256) (k0_off19 L) S1x256.size (k0_off19_inb L h))).reshape S256 squeezes_S1x256_S256.numel_eq).set = _
  rw [View.set_reshape, View.set_slice]
  exact Finset.map_refl.trans (set_rowWin _ _ _ (k0_off19_eq L))
theorem set_shIdxWin2 (L : grid0.Coords) (h : k0_cond1 L = 1#1) : (shIdxWin2 L h).view.set = rowSet ((L 1).val + 1) := by
  show (((shIdxV).view.slice (Rect.unit (s := S16x256) (k0_off19 L) S1x256.size (k0_off19_inb L h))).reshape S256 squeezes_S1x256_S256.numel_eq).set = _
  rw [View.set_reshape, View.set_slice]
  exact Finset.map_refl.trans (set_rowWin _ _ _ (k0_off19_eq L))
theorem set_oWin (L : grid0.Coords) (h : k0_cond1 L = 1#1) : (oWin L h).view.set = oSet (L 0).val (L 1).val := by
  show (((oV).view.slice (Rect.unit (s := S16x256) (k0_off20 L) S1x256.size (k0_off20_inb L h))).reshape S256 squeezes_S1x256_S256.numel_eq).set = _
  rw [View.set_reshape, View.set_slice]
  refine (Finset.map_refl.trans (set_rowWin _ _ _ (off20_eq L))).trans (Finset.ext fun y => ?_)
  rw [mem_rowSet, mem_oSet]
  exact ⟨fun e => ⟨(cond1_iff L).mp h, e⟩, And.right⟩

/-! ## Where a window places its elements -/

theorem core_lt (L : grid0.Coords) : (L 0).val < 2 := (L 0).isLt
theorem tile_lt (L : grid0.Coords) : (L 1).val < 16 := (L 1).isLt

theorem emb_blockWin (off : Fin 3 → ℕ) (inb : ∀ a, off a + S1x128x256.size a ≤ S16x256x256.size a) (b r : ℕ) (hb : b < 16) (hr : r + 128 ≤ 256)
    (h : off = ![b, r, 0]) (y : S128x256.Idx) :
    (Rect.unit (s := S16x256x256) off S1x128x256.size inb).emb (Shape.reshapeEquiv squeezes_S1x128x256_S128x256.numel_eq y)
      = (ix3 ⟨b, hb⟩ ⟨r + (y 0).val, by have : (y 0).val < 128 := (y 0).isLt; omega⟩ (y 1) : S16x256x256.Idx) := by
  subst h
  have e : Shape.reshapeEquiv squeezes_S1x128x256_S128x256.numel_eq y = ix3 (⟨0, Nat.one_pos⟩ : Fin 1) (y 0) (y 1) := by
    conv_lhs => rw [eq_ix2 y]
    exact reshapeEquiv_ix2_1ab _ _ _
  rw [e]
  refine Rect.emb_eq_of_coords _ _ _ fun a => ?_
  fin_cases a <;> simp

theorem emb_xWin (L : grid0.Coords) (y : S128x256.Idx) :
    (xWin L).view.emb y = (ix3 ⟨(8 * (L 0).val + (L 1).val / 2) % 16, Nat.mod_lt _ (by decide)⟩
      ⟨(128 * ((L 1).val % 2) + (y 0).val) % 256, Nat.mod_lt _ (by decide)⟩ (y 1) : S16x256x256.Idx) := by
  have hc := core_lt L
  have ht := tile_lt L
  have hy : (y 0).val < 128 := (y 0).isLt
  refine (emb_blockWin _ (k0_off1_inb L) (8 * (L 0).val + (L 1).val / 2) ((L 1).val % 2 * 128) (by omega) (by omega) (off1_eq L) y).trans ?_
  congr 1 <;> exact Fin.ext (by simp only; omega)

theorem emb_rowWin (off : Fin 2 → ℕ) (inb : ∀ a, off a + S1x256.size a ≤ S16x256.size a) (i : ℕ) (hi : i < 16) (h : off = ![i, 0]) (j : S256.Idx) :
    (Rect.unit (s := S16x256) off S1x256.size inb).emb (Shape.reshapeEquiv squeezes_S1x256_S256.numel_eq j) = ix2 ⟨i, hi⟩ (j 0) := by
  subst h
  have e : Shape.reshapeEquiv squeezes_S1x256_S256.numel_eq j = ix2 (⟨0, Nat.one_pos⟩ : Fin 1) (j 0) :=
    Shape.reshapeEquiv_eq_of_rowMajor _
      (((Shape.rowMajor_val_two _).trans (show 0 * 256 + (j 0).val = (j 0).val by omega)).trans (Shape.rowMajor_val_one _).symm)
  rw [e]
  refine Rect.emb_eq_of_coords _ _ _ fun a => ?_
  fin_cases a <;> simp

/-- What a tile's copy of its input holds. -/
theorem read_xWin (L : grid0.Coords) (x : S16x256x256.Idx → F .f32) :
    (xWin L).view.read (Elt F) x = rows x (8 * (L 0).val + (L 1).val / 2) ((L 1).val % 2) :=
  funext fun y => congrArg x (emb_xWin L y)

/-- A load of sixteen columns of one row of the tile's copy. -/
theorem row_lane (f : S128x256.Idx → F .f32) (off : Fin 2 → ℕ) (inb : ∀ a, off a + S1x16.size a ≤ S128x256.size a) (t g : ℕ) (ht : t < 128) (hg : g < 16)
    (h : off = ![t, 16 * g]) (j : S16.Idx) :
    shapeCast S16 (View.readAt (Elt F) (bufV).view (Rect.unit (s := S128x256) off S1x16.size inb).toLoadRect f) shapeCasts_S1x16_S16 j = column f (lane g j) t := by
  subst h
  have hj : (j 0).val < 16 := (j 0).isLt
  rw [eq_ix1 j]
  refine (shapeCast_1a_a_apply (a := 16) _ _ (j 0)).trans ?_
  show f _ = f _
  congr 1
  funext a
  refine Fin.ext ?_
  match a with
  | ⟨0, _⟩ => show t + 1 * 0 = t % 128; omega
  | ⟨1, _⟩ => show 16 * g + 1 * (j 0).val = (16 * g + (j 0).val) % 256; omega

/-! ## A tile's own buffers and semaphores -/

/-- Six different members of a big separating conjunction, and the rest. -/
theorem take_six {α : Type} [DecidableEq α] (Φ : α → sProp 𝕄) (I : Finset α) (a0 a1 a2 a3 a4 a5 : α)
    (hI : ∀ a ∈ [a0, a1, a2, a3, a4, a5], a ∈ I) (hn : [a0, a1, a2, a3, a4, a5].Nodup) :
    ∃ R : sProp 𝕄, bigSep I Φ = iprop(Φ a0 ∗ Φ a1 ∗ Φ a2 ∗ Φ a3 ∗ Φ a4 ∗ Φ a5 ∗ R) := by
  simp only [List.mem_cons, List.not_mem_nil, or_false, forall_eq_or_imp, forall_eq] at hI
  simp only [List.nodup_cons, List.mem_cons, List.not_mem_nil, or_false, not_or, not_false_eq_true, List.nodup_nil, and_true] at hn
  obtain ⟨h0, h1, h2, h3, h4, h5⟩ := hI
  obtain ⟨⟨n01, n02, n03, n04, n05⟩, ⟨n12, n13, n14, n15⟩, ⟨n23, n24, n25⟩, ⟨n34, n35⟩, n45⟩ := hn
  have keep : ∀ {a b : α} {J : Finset α}, ¬ b = a → a ∈ J → a ∈ J.erase b := fun h hi => Finset.mem_erase.mpr ⟨fun e => h e.symm, hi⟩
  refine ⟨bigSep ((((((I.erase a0).erase a1).erase a2).erase a3).erase a4).erase a5) Φ, ?_⟩
  rw [SparseCore.bigSep_erase' h0, SparseCore.bigSep_erase' (keep n01 h1), SparseCore.bigSep_erase' (keep n12 (keep n02 h2)),
    SparseCore.bigSep_erase' (keep n23 (keep n13 (keep n03 h3))), SparseCore.bigSep_erase' (keep n34 (keep n24 (keep n14 (keep n04 h4)))),
    SparseCore.bigSep_erase' (keep n45 (keep n35 (keep n25 (keep n15 (keep n05 h5)))))]

abbrev cell (d : Dev nD) (L : grid0.Coords) (s : DmaSem sig) : GSem nD τ sig := (V d (cV L) (jV L), .dma s)

/-- The six semaphores of the tile's copies among its own, and the rest. -/
theorem ownSems0_V (d : Dev nD) (L : grid0.Coords) : ∃ R : sProp 𝕄,
    (ownSems0 (V d (cV L) (jV L)) : sProp 𝕄)
      = iprop(semVal (cell d L cc0_scoped0.sem) 0 ∗ semVal (cell d L cc0_scoped1.sem) 0 ∗ semVal (cell d L cc0_scoped2.sem) 0
          ∗ semVal (cell d L cc0_scoped3.sem) 0 ∗ semVal (cell d L cc0_scoped4.sem) 0 ∗ semVal (cell d L cc0_scoped5.sem) 0 ∗ R) := by
  have own : ∀ s : DmaSem sig, (SemLoc.dma s : SemLoc sig).isScoped .scVector = true → cell d L s ∈ ownCells (V d (cV L) (jV L)) :=
    fun s h => (mem_ownCells (g := cell d L s)).mpr ⟨rfl, h⟩
  refine take_six (fun g => semVal g 0) _ (cell d L cc0_scoped0.sem) (cell d L cc0_scoped1.sem) (cell d L cc0_scoped2.sem)
    (cell d L cc0_scoped3.sem) (cell d L cc0_scoped4.sem) (cell d L cc0_scoped5.sem) ?_ ?_
  · simp only [List.mem_cons, List.not_mem_nil, or_false, forall_eq_or_imp, forall_eq]
    exact ⟨own _ (by decide), own _ (by decide), own _ (by decide), own _ (by decide), own _ (by decide), own _ (by decide)⟩
  · exact List.Nodup.map (f := fun s : DmaSem sig => cell d L s) (fun s t e => SemLoc.dma.inj (Prod.mk.inj e).2)
      (show [cc0_scoped0.sem, cc0_scoped1.sem, cc0_scoped2.sem, cc0_scoped3.sem, cc0_scoped4.sem, cc0_scoped5.sem].Nodup by decide)

/-- The tile's six buffers among its own, and the rest. -/
theorem ownBufs_V (d : Dev nD) (L : grid0.Coords) : ∃ R : sProp 𝕄,
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f) ∗ (∃ f, (V d (cV L) (jV L)).loc cc0_scratch3 ↦{fullShare} f)
          ∗ (∃ f, (V d (cV L) (jV L)).loc cc0_scratch4 ↦{fullShare} f) ∗ (∃ f, (V d (cV L) (jV L)).loc cc0_scratch5 ↦{fullShare} f) ∗ R) := by
  have own : ∀ b ∈ [cc0_scratch0, cc0_scratch1, cc0_scratch2, cc0_scratch3, cc0_scratch4, cc0_scratch5],
      (Proc.scVector (cV L) (jV L)).devRef b ∈ ownRefs (τ := τ) (.scVector (cV L) (jV L)) := by
    simp only [List.mem_cons, List.not_mem_nil, or_false, forall_eq_or_imp, forall_eq]
    exact ⟨SparseCore.Cfg.mem_ownRefs_of_owner rfl, SparseCore.Cfg.mem_ownRefs_of_owner rfl, SparseCore.Cfg.mem_ownRefs_of_owner rfl,
      SparseCore.Cfg.mem_ownRefs_of_owner rfl, SparseCore.Cfg.mem_ownRefs_of_owner rfl, SparseCore.Cfg.mem_ownRefs_of_owner rfl⟩
  let r : Ref sig .scVector → DevRef τ sig := fun b => (Proc.scVector (cV L) (jV L)).devRef b
  refine take_six (fun b => iprop(∃ f, ((d, b) : Loc nD τ sig) ↦{fullShare} f)) _ (r cc0_scratch0) (r cc0_scratch1) (r cc0_scratch2)
    (r cc0_scratch3) (r cc0_scratch4) (r cc0_scratch5) (fun a ha => ?_) ?_
  · obtain ⟨b, hb, rfl⟩ := List.mem_map.mp (show a ∈ [cc0_scratch0, cc0_scratch1, cc0_scratch2, cc0_scratch3, cc0_scratch4, cc0_scratch5].map r from ha)
    exact own b hb
  · exact List.Nodup.map (f := r) (fun b b' e => Proc.devRef_injective _ e)
      (show [cc0_scratch0, cc0_scratch1, cc0_scratch2, cc0_scratch3, cc0_scratch4, cc0_scratch5].Nodup by decide)

end Cert.Proof.Run

end
-- ==== Proof.Parts.lean ====
/-
  What the pieces of a tile's run hold: its answers after its sixteen stores, the rows it copies them to, the combination
  of two tiles' answers, and what is handed over at the barrier.
-/
module

public import proofs.«01_k».proof.Proof.Views

@[expose] public section

noncomputable section

namespace Cert.Proof.Run

open Cert.KernelIdeal Cert.KernelIdeal.Gen Cert.Proof.Scan

open Idealize.ShloMosaic
open Idealize.ShloMosaic.SparseCore (S V T)
open Idealize.ShloMosaic.SparseCore.Cfg (HIx)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- A re-indexing of sixteen elements to the same sixteen is none. -/
theorem cast16 {α : Type} (w : S16.Idx → α) : shapeCast S16 w shapeCasts_S16_S16 = w :=
  funext fun i => congrArg w (Shape.reshapeEquiv_self _ i)

/-! ## A tile's answers -/

/-- The largest element of every column of a half, and the row it is first met at. -/
def tileMax (f : S128x256.Idx → F .f32) (base : ℕ) : S256.Idx → F .f32 := fun j => (scan (column f (j 0)) base 128).1
/-- A tile's places after all its rows, column by column. -/
def tileIdx (f : S128x256.Idx → F .f32) (base : ℕ) : S256.Idx → BitVec 32 := fun j => (scan (column f (j 0)) base 128).2

/-- The columns that store `g` fills. -/
theorem emb_lane (off : Fin 1 → ℕ) (inb : ∀ a, off a + S16.size a ≤ S256.size a) (g : ℕ) (hg : g < 16) (h : off = ![16 * g]) (x : S16.Idx) :
    ((Rect.unit (s := S256) off S16.size inb).emb x) 0 = lane g x := by
  subst h
  have hx : (x 0).val < 16 := (x 0).isLt
  refine Fin.ext ?_
  show 16 * g + 1 * (x 0).val = (16 * g + (x 0).val) % 256
  omega

/-- A group's maxima, stored, are that piece of the tile's maxima. -/
theorem maxes_piece (f : S128x256.Idx → F .f32) (base g k : ℕ) (hk : k = 128) (hg : g < 16) (off : Fin 1 → ℕ) (inb : ∀ a, off a + S16.size a ≤ S256.size a)
    (h : off = ![16 * g]) (x : S16.Idx) :
    shapeCast S16 (maxes f base g k) shapeCasts_S16_S16 x = tileMax f base ((Rect.unit (s := S256) off S16.size inb).emb x) := by
  subst hk
  rw [cast16]
  exact congrArg (fun c => (scan (column f c) base 128).1) (emb_lane off inb g hg h x).symm

/-- A group's places, stored, are that piece of the tile's places. -/
theorem places_piece (f : S128x256.Idx → F .f32) (base g k : ℕ) (hk : k = 128) (hg : g < 16) (off : Fin 1 → ℕ) (inb : ∀ a, off a + S16.size a ≤ S256.size a)
    (h : off = ![16 * g]) (x : S16.Idx) :
    shapeCast S16 (places f base g k) shapeCasts_S16_S16 x = tileIdx f base ((Rect.unit (s := S256) off S16.size inb).emb x) := by
  subst hk
  rw [cast16]
  exact congrArg (fun c => (scan (column f c) base 128).2) (emb_lane off inb g hg h x).symm

/-! ## Two tiles' answers combined -/

/-- The second tile's place where its element is larger, else the first's. -/
def pick (pm mm : S256.Idx → F .f32) (pi mi : S256.Idx → BitVec 32) : S256.Idx → BitVec 32 :=
  fun j => Scalar.select (FloatOps.cmpf .ogt (pm j) (mm j)) (pi j) (mi j)

/-- A group's choice between both halves, stored, is that piece of the choice of whole rows. -/
theorem pick_piece (pm mm : S256.Idx → F .f32) (pi mi : S256.Idx → BitVec 32) (off : Fin 1 → ℕ) (inb : ∀ a, off a + S16.size a ≤ S256.size a) (x : S16.Idx) :
    shapeCast S16 (select
        (cmpf .ogt (shapeCast S16 (View.readAt (Elt F) (pmaxV).view (Rect.unit (s := S256) off S16.size inb).toLoadRect pm) shapeCasts_S16_S16)
          (shapeCast S16 (View.readAt (Elt F) (maxV).view (Rect.unit (s := S256) off S16.size inb).toLoadRect mm) shapeCasts_S16_S16))
        (shapeCast S16 (View.readAt (Elt F) (pidxV).view (Rect.unit (s := S256) off S16.size inb).toLoadRect pi) shapeCasts_S16_S16)
        (shapeCast S16 (View.readAt (Elt F) (idxV).view (Rect.unit (s := S256) off S16.size inb).toLoadRect mi) shapeCasts_S16_S16)) shapeCasts_S16_S16 x
      = pick pm mm pi mi ((Rect.unit (s := S256) off S16.size inb).emb x) := by
  simp only [cast16]
  rfl

/-- The combination of both halves' answers is the batch's row of the result. -/
theorem pick_out (x : S16x256x256.Idx → F .f32) (b : ℕ) (j : S256.Idx) :
    pick (tileMax (rows x b 1) 128) (tileMax (rows x b 0) 0) (tileIdx (rows x b 1) 128) (tileIdx (rows x b 0) 0) j = out x b (j 0) := rfl

/-! ## Copies of whole rows -/

/-- A copy of 256 elements through a window onto row `i` leaves the array at `g` on that row. -/
theorem row_written {e : EltTy} {κ : Kind} {sp : Space} (v : View sig κ sp S256 e) (fs : v.ty.Contents (Elt F)) (w : S256.Idx → Elt F e)
    (g : v.ty.Contents (Elt F)) (hw : ∀ j, w j = v.read (Elt F) g j) (y : _) (hy : y ∈ v.set) :
    v.writes (Elt F) fs [⟨Rect.whole S256, w⟩] y = g y := by
  obtain ⟨j, -, rfl⟩ := Finset.mem_map.mp hy
  have h := (congrFun (View.read_writes_whole v fs w) j).trans (hw j)
  rw [View.read_apply, View.read_apply] at h
  exact (cast_inj _).mp h

theorem read_shMaxWin (L : grid0.Coords) (x : S16x256x256.Idx → F .f32) :
    (shMaxWin L).view.read (Elt F) (sharedMax x (L 0).val)
      = tileMax (rows x (8 * (L 0).val + (L 1).val / 2) ((L 1).val % 2)) (128 * ((L 1).val % 2)) :=
  funext fun j => congrArg (sharedMax x (L 0).val) (emb_rowWin _ (k0_off18_inb L) (L 1).val (tile_lt L) (k0_off18_eq L) j)
theorem read_shIdxWin (L : grid0.Coords) (x : S16x256x256.Idx → F .f32) :
    (shIdxWin L).view.read (Elt F) (sharedIdx x (L 0).val)
      = tileIdx (rows x (8 * (L 0).val + (L 1).val / 2) ((L 1).val % 2)) (128 * ((L 1).val % 2)) :=
  funext fun j => congrArg (sharedIdx x (L 0).val) (emb_rowWin _ (k0_off18_inb L) (L 1).val (tile_lt L) (k0_off18_eq L) j)

theorem next_lt (L : grid0.Coords) (h : (L 1).val % 2 = 0) : (L 1).val + 1 < 16 := by have := tile_lt L; omega

theorem read_shMaxWin2 (L : grid0.Coords) (h : k0_cond1 L = 1#1) (x : S16x256x256.Idx → F .f32) :
    (shMaxWin2 L h).view.read (Elt F) (sharedMax x (L 0).val) = tileMax (rows x (8 * (L 0).val + (L 1).val / 2) 1) 128 := by
  have h2 := (cond1_iff L).mp h
  have e1 : ((L 1).val + 1) / 2 = (L 1).val / 2 := by omega
  have e2 : ((L 1).val + 1) % 2 = 1 := by omega
  refine funext fun j => (congrArg (sharedMax x (L 0).val) (emb_rowWin _ (k0_off19_inb L h) ((L 1).val + 1) (next_lt L h2) (k0_off19_eq L) j)).trans ?_
  show (half x (8 * (L 0).val + ((L 1).val + 1) / 2) (((L 1).val + 1) % 2) (j 0)).1 = _
  rw [e1, e2]; rfl
theorem read_shIdxWin2 (L : grid0.Coords) (h : k0_cond1 L = 1#1) (x : S16x256x256.Idx → F .f32) :
    (shIdxWin2 L h).view.read (Elt F) (sharedIdx x (L 0).val) = tileIdx (rows x (8 * (L 0).val + (L 1).val / 2) 1) 128 := by
  have h2 := (cond1_iff L).mp h
  have e1 : ((L 1).val + 1) / 2 = (L 1).val / 2 := by omega
  have e2 : ((L 1).val + 1) % 2 = 1 := by omega
  refine funext fun j => (congrArg (sharedIdx x (L 0).val) (emb_rowWin _ (k0_off19_inb L h) ((L 1).val + 1) (next_lt L h2) (k0_off19_eq L) j)).trans ?_
  show (half x (8 * (L 0).val + ((L 1).val + 1) / 2) (((L 1).val + 1) % 2) (j 0)).2 = _
  rw [e1, e2]; rfl
theorem read_oWin (L : grid0.Coords) (h : k0_cond1 L = 1#1) (x : S16x256x256.Idx → F .f32) (j : S256.Idx) :
    (oWin L h).view.read (Elt F) (result x) j = out x (8 * (L 0).val + (L 1).val / 2) (j 0) :=
  congrArg (result x) (emb_rowWin _ (k0_off20_inb L h) (8 * (L 0).val + (L 1).val / 2) (by have := tile_lt L; have := core_lt L; omega) (off20_eq L) j)

/-! ## What the barrier hands over -/

/-- Before the barrier, an even tile keeps its rows; an odd tile's go to the round of the tile before it. -/
theorem hand_in (d : Dev nD) (L : grid0.Coords) : answers m d (cV L) (L 1).val
    ⊢ (iprop((if (L 1).val % 2 = 0 then answers m d (cV L) (L 1).val else iprop(emp))
        ∗ bigSep Finset.univ fun j : Fin (grid0.bound 1) => (bRd m).payload (bcell d (cV L) (j.castLE hsub0)) 0 (jV L).val) : sProp 𝕄) := by
  have ht := tile_lt L
  by_cases h : (L 1).val % 2 = 0
  · rw [if_pos h, show (bigSep Finset.univ fun j : Fin (grid0.bound 1) => (bRd m).payload (bcell d (cV L) (j.castLE hsub0)) 0 (jV L).val)
        = bigSep Finset.univ fun _ => (iprop(emp) : sProp 𝕄) from
        bigSep_congr fun j _ => if_neg fun e => by
          have e1 : j.val % 2 = 0 := e.1
          have e2 : (L 1).val = j.val + 1 := e.2
          omega, bigSep_emp']
    iintro H
    isplitl [H]; · iexact H
    iempintro
  · rw [if_neg h]
    let j₀ : Fin (grid0.bound 1) := ⟨(L 1).val - 1, by show _ < 16; omega⟩
    rw [SparseCore.bigSep_erase' (Finset.mem_univ j₀),
      show (bigSep (Finset.univ.erase j₀) fun j : Fin (grid0.bound 1) => (bRd m).payload (bcell d (cV L) (j.castLE hsub0)) 0 (jV L).val)
        = bigSep (Finset.univ.erase j₀) fun _ => (iprop(emp) : sProp 𝕄) from
        bigSep_congr fun j hj => if_neg fun e => (Finset.mem_erase.mp hj).1 (Fin.ext (by
          have e2 : (L 1).val = j.val + 1 := e.2
          show j.val = (L 1).val - 1; omega)), bigSep_emp']
    iintro H
    isplitl []; · iempintro
    isplitl [H]
    · show _ ⊢ bPay m (bcell d (cV L) (j₀.castLE hsub0)) (jV L).val
      unfold bPay; dsimp only
      rw [if_pos ⟨by show ((L 1).val - 1) % 2 = 0; omega, by show (L 1).val = (L 1).val - 1 + 1; omega⟩]
      exact BI.Entails.refl _
    · iempintro

/-- After it, an even tile has the next tile's rows. -/
theorem hand_out (d : Dev nD) (L : grid0.Coords) :
    (bigSep ((bRd m).duties (bcell d (cV L) (jV L)) 0 \ ∅) fun n => (bRd m).payload (bcell d (cV L) (jV L)) 0 n)
    ⊢ (if (L 1).val % 2 = 0 then answers m d (cV L) ((L 1).val + 1) else iprop(emp) : sProp 𝕄) := by
  have ht := tile_lt L
  by_cases h : (L 1).val % 2 = 0
  · rw [if_pos h, Finset.sdiff_empty, bRd_duties₀]
    refine (bigSep_elim (i := (L 1).val + 1) (Finset.mem_image.mpr ⟨⟨(L 1).val + 1, by show _ < 16; omega⟩, Finset.mem_univ _, rfl⟩)).trans ?_
    show bPay m (bcell d (cV L) (jV L)) ((L 1).val + 1) ⊢ _
    unfold bPay; dsimp only
    rw [if_pos ⟨h, rfl⟩]
  · rw [if_neg h]
    iintro -
    iempintro

/-- The two rows of a pair are what its even tile holds in the end. -/
theorem rows_pair (i : ℕ) (h : i % 2 = 0) : rowSet i ∪ rowSet (i + 1) = endSet i := by
  ext y
  rw [Finset.mem_union, mem_rowSet, mem_rowSet, mem_endSet]
  omega
theorem rows_disj (i : ℕ) : Disjoint (rowSet i) (rowSet (i + 1)) :=
  Finset.disjoint_left.mpr fun y h h' => by rw [mem_rowSet] at h h'; omega
theorem endSet_odd (i : ℕ) (h : ¬ i % 2 = 0) : endSet i = ∅ :=
  Finset.eq_empty_of_forall_notMem fun y hy => h (mem_endSet.mp hy).1
theorem oSet_odd (c i : ℕ) (h : ¬ i % 2 = 0) : oSet c i = ∅ :=
  Finset.eq_empty_of_forall_notMem fun y hy => h (mem_oSet.mp hy).1

/-- Both rows of a pair together. -/
theorem answers_pair (d : Dev nD) (L : grid0.Coords) (h : (L 1).val % 2 = 0) :
    iprop(((maxLoc d (cV L) ↦[rowSet (L 1).val]{fullShare} sharedMax (m (xLoc d)) (cV L).val) ∗ (idxLoc d (cV L) ↦[rowSet (L 1).val]{fullShare} sharedIdx (m (xLoc d)) (cV L).val))
        ∗ (maxLoc d (cV L) ↦[rowSet ((L 1).val + 1)]{fullShare} sharedMax (m (xLoc d)) (cV L).val)
        ∗ (idxLoc d (cV L) ↦[rowSet ((L 1).val + 1)]{fullShare} sharedIdx (m (xLoc d)) (cV L).val))
      ⊢ (shPart d (cV L) (endSet (L 1).val) : sProp 𝕄) := by
  iintro ⟨⟨H1, H2⟩, H3, H4⟩
  isplitl [H1 H3]
  · iexists _
    rw [← rows_pair _ h]
    iapply (pointsTo_union (rows_disj _)).mpr
    isplitl [H1]; · iexact H1
    iexact H3
  · iexists _
    rw [← rows_pair _ h]
    iapply (pointsTo_union (rows_disj _)).mpr
    isplitl [H2]; · iexact H2
    iexact H4

/-- An odd tile holds nothing of them. -/
theorem none_pair (d : Dev nD) (c : Fin τ.nSC) (i : ℕ) (h : ¬ i % 2 = 0) : (iprop(emp) : sProp 𝕄) ⊢ shPart d c (endSet i) := by
  rw [endSet_odd i h]
  iintro -
  isplitl []
  · iexists (fun _ => (Scalar.ofBits .f32 0#32 : F .f32))
    rw [pointsTo_empty]
    iempintro
  · iexists (fun _ => (0#32 : BitVec 32))
    rw [pointsTo_empty]
    iempintro

end Cert.Proof.Run

end
-- ==== Proof.Tile.lean ====
/-
  One tile's run: the copy in, the two walks down the rows, the stores, the rows handed over at the barrier, and on an even tile
  the fetch, the choice between both halves and the copy out.
-/
module

public import proofs.«01_k».proof.Proof.Parts

@[expose] public section

noncomputable section

namespace Cert.Proof.Run

open Cert.KernelIdeal Cert.KernelIdeal.Gen Cert.Proof.Scan

open Idealize.ShloMosaic
open Idealize.ShloMosaic.SparseCore (S V T)
open Idealize.ShloMosaic.SparseCore.Cfg (HIx ownBufs ownSems0 ownCells ownRefs mem_ownCells mem_ownRefs)
open Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) [FloatOps F]

/-- What the loop over groups `G … G + 7` carries after `k` rows. -/
abbrev carried (f : S128x256.Idx → F .f32) (base G k : ℕ) :
    FVec F S16 .f32 × FVec F S16 .f32 × FVec F S16 .f32 × FVec F S16 .f32 × FVec F S16 .f32 × FVec F S16 .f32 × FVec F S16 .f32 × FVec F S16 .f32
      × IVec S16 32 × IVec S16 32 × IVec S16 32 × IVec S16 32 × IVec S16 32 × IVec S16 32 × IVec S16 32 × IVec S16 32 :=
  (maxes f base G k, maxes f base (G + 1) k, maxes f base (G + 2) k, maxes f base (G + 3) k, maxes f base (G + 4) k, maxes f base (G + 5) k,
    maxes f base (G + 6) k, maxes f base (G + 7) k, places f base G k, places f base (G + 1) k, places f base (G + 2) k, places f base (G + 3) k,
    places f base (G + 4) k, places f base (G + 5) k, places f base (G + 6) k, places f base (G + 7) k)

/-- The loop's invariant: the tile's copy of its input, and what is carried. -/
def inv (d : Dev nD) (L : grid0.Coords) (f : S128x256.Idx → F .f32) (base G : ℕ) (k : ℕ)
    (acc : FVec F S16 .f32 × FVec F S16 .f32 × FVec F S16 .f32 × FVec F S16 .f32 × FVec F S16 .f32 × FVec F S16 .f32 × FVec F S16 .f32 × FVec F S16 .f32
      × IVec S16 32 × IVec S16 32 × IVec S16 32 × IVec S16 32 × IVec S16 32 × IVec S16 32 × IVec S16 32 × IVec S16 32) : sProp 𝕄 :=
  iprop(((bufV).view.loc (V d (cV L) (jV L)) ↦{fullShare} f) ∗ ⌜acc = carried f base G k⌝)

omit [FloatOps F] in
/-- The place the loop takes for row `k` of half `h`. -/
theorem place_eq (w : BitVec 32) (h k : ℕ) (hw : w = BitVec.ofNat 32 (128 * h)) :
    0#32 + ((0#32 + (0#32 + BitVec.ofNat 32 k * 1#32) * 1#32) + w) = BitVec.ofNat 32 (128 * h + k) := by
  subst hw
  simp only [BitVec.zero_add, BitVec.mul_one, BitVec.ofNat_add]
  exact BitVec.add_comm _ _

set_option maxHeartbeats 4000000 in
/-- One tile's run, at any core and tile: from its part of the input, its rows of the shared arrays and its part of the result
    to the same with the contents of `Proof.Scan`, its own buffers given back and every semaphore at zero. -/
theorem tile_body (hF : (K (F := F)).Facts) (d : Dev nD) (L : grid0.Coords) (O : CellTallies nD τ sig (HIx 1)) (W : Waits sig (HIx 1)) (hO : ∀ g, O g none = 0)
    (hOlev : ∀ g ι, 0 < O g ι → 8 * (0 : Fin 1).val + 6 ≤ (K (F := F)).lev g ι) :
    iprop(levAts (K (F := F)).L (K (F := F)).lev ∗ bkit m d (cV L) (jV L)
        ∗ taskIn m d (cV L) (L 1).val
        ∗ scopedBufs (V d (cV L) (jV L)) ∗ scopedSems0 (V d (cV L) (jV L)) ∗ owes (V d (cV L) (jV L)) (O + oxV d (cV L)) W)
      ⊢ wp frame (wpE (defs₀ (F := F)) 𝒱₀ (V d (cV L) (jV L)) none) Set.univ
          (cc0__argmax_sc L xV (Memref.isWhole_whole _) oV (Memref.isWhole_whole _) bufV (Memref.isWhole_whole _) maxV (Memref.isWhole_whole _)
            idxV (Memref.isWhole_whole _) pmaxV (Memref.isWhole_whole _) pidxV (Memref.isWhole_whole _) resV (Memref.isWhole_whole _)
            shMaxV (Memref.isWhole_whole _) shIdxV (Memref.isWhole_whole _) cc0_scoped0 cc0_scoped1 cc0_scoped2 cc0_scoped3 cc0_scoped4 cc0_scoped5)
          fun _ => iprop((taskOut m d (cV L) (L 1).val ∗ semVal (bcell d (cV L) (jV L)) 0)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  obtain ⟨Rs, hRs⟩ := ownSems0_V (F := F) d L
  obtain ⟨Rb, hRb⟩ := ownBufs_V (F := F) d L
  simp only [cc0__argmax_sc_eq_skeleton]; unfold cc0__argmax_sc_skel
  rw [(K (F := F)).scopedBufs_V hF d (cV L) (jV L), SparseCore.Cfg.scopedSems0_V (Val := Elt F) d (cV L) (jV L), hRs, hRb]
  unfold bkit
  iintro ⟨#Hlv, ⟨⟨%κ, #Hinv⟩, Htoks, #Hrch, Hat, Hcred⟩, ⟨Hx, Ho, ⟨%fsm, Hsm⟩, ⟨%fsi, Hsi⟩⟩,
    ⟨⟨%f0, Hbuf⟩, ⟨%f1, Hmax⟩, ⟨%f2, Hidx⟩, ⟨%f3, Hpmax⟩, ⟨%f4, Hpidx⟩, ⟨%f5, Hres⟩, Hbufs⟩, ⟨Hs0, Hs1, Hs2, Hs3, Hs4, Hs5, Hsems⟩, HO⟩
  have hO' : ∀ g, (O + oxV d (cV L)) g none = 0 := fun g => by rw [Pi.add_apply, Finsupp.add_apply, hO g, oxV_none]
  ihave Hmw1 := (show levAts (K (F := F)).L (K (F := F)).lev ⊢ Transfers.MayWaits (V d (cV L) (jV L)) (default : HIx 1) (O + oxV d (cV L)) from
    (K (F := F)).mayWaits_none (thr := V d (cV L) (jV L)) hO') $$ Hlv
  ihave Hmw2 := (show levAts (K (F := F)).L (K (F := F)).lev ⊢ Transfers.MayWaits (V d (cV L) (jV L)) (default : HIx 1) O from
    (K (F := F)).mayWaits_none (thr := V d (cV L) (jV L)) hO) $$ Hlv
  -- the windows' ownership as the tile addresses them
  have ex : (xLoc d ↦[xSet (cV L).val (L 1).val]{fullShare} m (xLoc d) : sProp 𝕄)
      = ((xWin L).view.loc (V d (cV L) (jV L)) ↦[(xWin L).view.set]{fullShare} m (xLoc d)) := by rw [set_xWin]; rfl
  have esm : ∀ f, (maxLoc d (cV L) ↦[rowSet (L 1).val]{fullShare} f : sProp 𝕄)
      = ((shMaxWin L).view.loc (V d (cV L) (jV L)) ↦[(shMaxWin L).view.set]{fullShare} f) := fun f => by rw [set_shMaxWin]; rfl
  have esi : ∀ f, (idxLoc d (cV L) ↦[rowSet (L 1).val]{fullShare} f : sProp 𝕄)
      = ((shIdxWin L).view.loc (V d (cV L) (jV L)) ↦[(shIdxWin L).view.set]{fullShare} f) := fun f => by rw [set_shIdxWin]; rfl
  ihave Hx' := (Entails.of_eq ex) $$ Hx
  ihave Hsm' := (Entails.of_eq (esm _)) $$ Hsm
  ihave Hsi' := (Entails.of_eq (esi _)) $$ Hsi
  ihave Hbuf' := (show ((V d (cV L) (jV L)).loc cc0_scratch0 ↦{fullShare} f0 : sProp 𝕄) ⊢ ((bufV).view.loc (V d (cV L) (jV L)) ↦{fullShare} f0) from BI.Entails.refl _) $$ Hbuf
  ihave Hmax' := (show ((V d (cV L) (jV L)).loc cc0_scratch1 ↦{fullShare} f1 : sProp 𝕄) ⊢ ((maxV).view.loc (V d (cV L) (jV L)) ↦{fullShare} f1) from BI.Entails.refl _) $$ Hmax
  ihave Hidx' := (show ((V d (cV L) (jV L)).loc cc0_scratch2 ↦{fullShare} f2 : sProp 𝕄) ⊢ ((idxV).view.loc (V d (cV L) (jV L)) ↦{fullShare} f2) from BI.Entails.refl _) $$ Hidx
  ihave Hpmax' := (show ((V d (cV L) (jV L)).loc cc0_scratch3 ↦{fullShare} f3 : sProp 𝕄) ⊢ ((pmaxV).view.loc (V d (cV L) (jV L)) ↦{fullShare} f3) from BI.Entails.refl _) $$ Hpmax
  ihave Hpidx' := (show ((V d (cV L) (jV L)).loc cc0_scratch4 ↦{fullShare} f4 : sProp 𝕄) ⊢ ((pidxV).view.loc (V d (cV L) (jV L)) ↦{fullShare} f4) from BI.Entails.refl _) $$ Hpidx
  ihave Hres' := (show ((V d (cV L) (jV L)).loc cc0_scratch5 ↦{fullShare} f5 : sProp 𝕄) ⊢ ((resV).view.loc (V d (cV L) (jV L)) ↦{fullShare} f5) from BI.Entails.refl _) $$ Hres
  sl_exec
  have hv29 : tile_body.sl.v29 L = BitVec.ofNat 32 (128 * ((L 1).val % 2)) := by
    have h : ∀ L, tile_body.sl.v29 L = BitVec.ofNat 32 (128 * ((L 1).val % 2)) := by decide +kernel
    exact h L
  generalize tile_body.sl.v29 L = v29 at hv29 ⊢
  have hbuf : View.write (Elt F) (bufV).view f0 (tile_body.sl.dma0 m d L) Finset.univ
      = rows (m (xLoc d)) (8 * (L 0).val + (L 1).val / 2) ((L 1).val % 2) := by
    rw [← read_xWin]
    exact View.write_whole_univ _ _ _
  rw [hbuf]
  generalize hf : rows (m (xLoc d)) (8 * (L 0).val + (L 1).val / 2) ((L 1).val % 2) = f
  sl_for (inv d L f (128 * ((L 1).val % 2)) 0) $$ [Hbuf']
  case region =>
    intro k acc
    unfold inv
    iintro ⟨Hbuf, %hacc⟩
    subst hacc
    sl_exec
    sl_step
    isplitl [Hbuf]; · iexact Hbuf
    ipureintro
    have hk : k.val < 128 := lt_of_lt_of_le k.isLt k0_t1_abs.2.1
    have hw : ∀ j : S16.Idx, tile_body.sl.r v29 k j = BitVec.ofNat 32 (128 * ((L 1).val % 2) + k.val) := fun _ => place_eq v29 _ k.val hv29
    simp only [Prod.mk.injEq]
    exact ⟨maxes_succ f _ 0 k.val _ (row_lane f _ _ _ _ hk (by decide) (k0_off2_eq k)), maxes_succ f _ 1 k.val _ (row_lane f _ _ _ _ hk (by decide) (k0_off3_eq k)),
      maxes_succ f _ 2 k.val _ (row_lane f _ _ _ _ hk (by decide) (k0_off4_eq k)), maxes_succ f _ 3 k.val _ (row_lane f _ _ _ _ hk (by decide) (k0_off5_eq k)),
      maxes_succ f _ 4 k.val _ (row_lane f _ _ _ _ hk (by decide) (k0_off6_eq k)), maxes_succ f _ 5 k.val _ (row_lane f _ _ _ _ hk (by decide) (k0_off7_eq k)),
      maxes_succ f _ 6 k.val _ (row_lane f _ _ _ _ hk (by decide) (k0_off8_eq k)), maxes_succ f _ 7 k.val _ (row_lane f _ _ _ _ hk (by decide) (k0_off9_eq k)),
      places_succ f _ 0 k.val _ _ (row_lane f _ _ _ _ hk (by decide) (k0_off2_eq k)) hw, places_succ f _ 1 k.val _ _ (row_lane f _ _ _ _ hk (by decide) (k0_off3_eq k)) hw,
      places_succ f _ 2 k.val _ _ (row_lane f _ _ _ _ hk (by decide) (k0_off4_eq k)) hw, places_succ f _ 3 k.val _ _ (row_lane f _ _ _ _ hk (by decide) (k0_off5_eq k)) hw,
      places_succ f _ 4 k.val _ _ (row_lane f _ _ _ _ hk (by decide) (k0_off6_eq k)) hw, places_succ f _ 5 k.val _ _ (row_lane f _ _ _ _ hk (by decide) (k0_off7_eq k)) hw,
      places_succ f _ 6 k.val _ _ (row_lane f _ _ _ _ hk (by decide) (k0_off8_eq k)) hw, places_succ f _ 7 k.val _ _ (row_lane f _ _ _ _ hk (by decide) (k0_off9_eq k)) hw⟩
  · unfold inv
    isplitl [Hbuf']; · iexact Hbuf'
    ipureintro
    rfl
  iintro %acc HI
  unfold inv
  icases HI with ⟨Hbuf', %hacc⟩
  subst hacc
  sl_exec
  sl_for (inv d L f (128 * ((L 1).val % 2)) 8) $$ [Hbuf']
  case region =>
    intro k acc
    unfold inv
    iintro ⟨Hbuf, %hacc⟩
    subst hacc
    sl_exec
    sl_step
    isplitl [Hbuf]; · iexact Hbuf
    ipureintro
    have hk : k.val < 128 := lt_of_lt_of_le k.isLt k0_t2_abs.2.1
    have hw : ∀ j : S16.Idx, tile_body.sl.r_22 v29 k j = BitVec.ofNat 32 (128 * ((L 1).val % 2) + k.val) := fun _ => place_eq v29 _ k.val hv29
    simp only [Prod.mk.injEq]
    exact ⟨maxes_succ f _ 8 k.val _ (row_lane f _ _ _ _ hk (by decide) (k0_off10_eq k)), maxes_succ f _ 9 k.val _ (row_lane f _ _ _ _ hk (by decide) (k0_off11_eq k)),
      maxes_succ f _ 10 k.val _ (row_lane f _ _ _ _ hk (by decide) (k0_off12_eq k)), maxes_succ f _ 11 k.val _ (row_lane f _ _ _ _ hk (by decide) (k0_off13_eq k)),
      maxes_succ f _ 12 k.val _ (row_lane f _ _ _ _ hk (by decide) (k0_off14_eq k)), maxes_succ f _ 13 k.val _ (row_lane f _ _ _ _ hk (by decide) (k0_off15_eq k)),
      maxes_succ f _ 14 k.val _ (row_lane f _ _ _ _ hk (by decide) (k0_off16_eq k)), maxes_succ f _ 15 k.val _ (row_lane f _ _ _ _ hk (by decide) (k0_off17_eq k)),
      places_succ f _ 8 k.val _ _ (row_lane f _ _ _ _ hk (by decide) (k0_off10_eq k)) hw, places_succ f _ 9 k.val _ _ (row_lane f _ _ _ _ hk (by decide) (k0_off11_eq k)) hw,
      places_succ f _ 10 k.val _ _ (row_lane f _ _ _ _ hk (by decide) (k0_off12_eq k)) hw, places_succ f _ 11 k.val _ _ (row_lane f _ _ _ _ hk (by decide) (k0_off13_eq k)) hw,
      places_succ f _ 12 k.val _ _ (row_lane f _ _ _ _ hk (by decide) (k0_off14_eq k)) hw, places_succ f _ 13 k.val _ _ (row_lane f _ _ _ _ hk (by decide) (k0_off15_eq k)) hw,
      places_succ f _ 14 k.val _ _ (row_lane f _ _ _ _ hk (by decide) (k0_off16_eq k)) hw, places_succ f _ 15 k.val _ _ (row_lane f _ _ _ _ hk (by decide) (k0_off17_eq k)) hw⟩
  · unfold inv
    isplitl [Hbuf']; · iexact Hbuf'
    ipureintro
    rfl
  iintro %acc HI
  unfold inv
  icases HI with ⟨Hbuf', %hacc⟩
  subst hacc
  sl_exec
  -- what the sixteen stores of each kind leave
  have hmax : (maxV).view.writes (Elt F) f1 (tile_body.sl.Hmax'_16 L f) = tileMax f (128 * ((L 1).val % 2)) := by
    refine View.contents_ext _ (fun y => ?_) (fun i hi => absurd rfl (hi i))
    unfold tile_body.sl.Hmax'_16
    refine View.read_writes_apply_of_pieces (Val := Elt F) (maxV).view f1 (tileMax f (128 * ((L 1).val % 2))) _ ?_ y ?_
    rotate_left
    · exact View.cover_of_tiled (Val := Elt F) _ ![16] rfl y
    refine List.forall_mem_cons.mpr ⟨fun x => maxes_piece f (128 * ((L 1).val % 2)) 15 128 rfl (by decide) ![240] inb_S256_S16_240 rfl x, ?_⟩
    refine List.forall_mem_cons.mpr ⟨fun x => maxes_piece f (128 * ((L 1).val % 2)) 14 128 rfl (by decide) ![224] inb_S256_S16_224 rfl x, ?_⟩
    refine List.forall_mem_cons.mpr ⟨fun x => maxes_piece f (128 * ((L 1).val % 2)) 13 128 rfl (by decide) ![208] inb_S256_S16_208 rfl x, ?_⟩
    refine List.forall_mem_cons.mpr ⟨fun x => maxes_piece f (128 * ((L 1).val % 2)) 12 128 rfl (by decide) ![192] inb_S256_S16_192 rfl x, ?_⟩
    refine List.forall_mem_cons.mpr ⟨fun x => maxes_piece f (128 * ((L 1).val % 2)) 11 128 rfl (by decide) ![176] inb_S256_S16_176 rfl x, ?_⟩
    refine List.forall_mem_cons.mpr ⟨fun x => maxes_piece f (128 * ((L 1).val % 2)) 10 128 rfl (by decide) ![160] inb_S256_S16_160 rfl x, ?_⟩
    refine List.forall_mem_cons.mpr ⟨fun x => maxes_piece f (128 * ((L 1).val % 2)) 9 128 rfl (by decide) ![144] inb_S256_S16_144 rfl x, ?_⟩
    refine List.forall_mem_cons.mpr ⟨fun x => maxes_piece f (128 * ((L 1).val % 2)) 8 128 rfl (by decide) ![128] inb_S256_S16_128 rfl x, ?_⟩
    refine List.forall_mem_cons.mpr ⟨fun x => maxes_piece f (128 * ((L 1).val % 2)) 7 128 rfl (by decide) ![112] inb_S256_S16_112 rfl x, ?_⟩
    refine List.forall_mem_cons.mpr ⟨fun x => maxes_piece f (128 * ((L 1).val % 2)) 6 128 rfl (by decide) ![96] inb_S256_S16_96 rfl x, ?_⟩
    refine List.forall_mem_cons.mpr ⟨fun x => maxes_piece f (128 * ((L 1).val % 2)) 5 128 rfl (by decide) ![80] inb_S256_S16_80 rfl x, ?_⟩
    refine List.forall_mem_cons.mpr ⟨fun x => maxes_piece f (128 * ((L 1).val % 2)) 4 128 rfl (by decide) ![64] inb_S256_S16_64 rfl x, ?_⟩
    refine List.forall_mem_cons.mpr ⟨fun x => maxes_piece f (128 * ((L 1).val % 2)) 3 128 rfl (by decide) ![48] inb_S256_S16_48 rfl x, ?_⟩
    refine List.forall_mem_cons.mpr ⟨fun x => maxes_piece f (128 * ((L 1).val % 2)) 2 128 rfl (by decide) ![32] inb_S256_S16_32 rfl x, ?_⟩
    refine List.forall_mem_cons.mpr ⟨fun x => maxes_piece f (128 * ((L 1).val % 2)) 1 128 rfl (by decide) ![16] inb_S256_S16_16 rfl x, ?_⟩
    refine List.forall_mem_cons.mpr ⟨fun x => maxes_piece f (128 * ((L 1).val % 2)) 0 128 rfl (by decide) ![0] inb_S256_S16_0 rfl x, ?_⟩
    exact fun p hp => absurd hp List.not_mem_nil
  have hidx : (idxV).view.writes (Elt F) f2 (tile_body.sl.Hidx'_16 L f) = tileIdx f (128 * ((L 1).val % 2)) := by
    refine View.contents_ext _ (fun y => ?_) (fun i hi => absurd rfl (hi i))
    unfold tile_body.sl.Hidx'_16
    refine View.read_writes_apply_of_pieces (Val := Elt F) (idxV).view f2 (tileIdx f (128 * ((L 1).val % 2))) _ ?_ y ?_
    rotate_left
    · exact View.cover_of_tiled (Val := Elt F) _ ![16] rfl y
    refine List.forall_mem_cons.mpr ⟨fun x => places_piece f (128 * ((L 1).val % 2)) 15 128 rfl (by decide) ![240] inb_S256_S16_240 rfl x, ?_⟩
    refine List.forall_mem_cons.mpr ⟨fun x => places_piece f (128 * ((L 1).val % 2)) 14 128 rfl (by decide) ![224] inb_S256_S16_224 rfl x, ?_⟩
    refine List.forall_mem_cons.mpr ⟨fun x => places_piece f (128 * ((L 1).val % 2)) 13 128 rfl (by decide) ![208] inb_S256_S16_208 rfl x, ?_⟩
    refine List.forall_mem_cons.mpr ⟨fun x => places_piece f (128 * ((L 1).val % 2)) 12 128 rfl (by decide) ![192] inb_S256_S16_192 rfl x, ?_⟩
    refine List.forall_mem_cons.mpr ⟨fun x => places_piece f (128 * ((L 1).val % 2)) 11 128 rfl (by decide) ![176] inb_S256_S16_176 rfl x, ?_⟩
    refine List.forall_mem_cons.mpr ⟨fun x => places_piece f (128 * ((L 1).val % 2)) 10 128 rfl (by decide) ![160] inb_S256_S16_160 rfl x, ?_⟩
    refine List.forall_mem_cons.mpr ⟨fun x => places_piece f (128 * ((L 1).val % 2)) 9 128 rfl (by decide) ![144] inb_S256_S16_144 rfl x, ?_⟩
    refine List.forall_mem_cons.mpr ⟨fun x => places_piece f (128 * ((L 1).val % 2)) 8 128 rfl (by decide) ![128] inb_S256_S16_128 rfl x, ?_⟩
    refine List.forall_mem_cons.mpr ⟨fun x => places_piece f (128 * ((L 1).val % 2)) 7 128 rfl (by decide) ![112] inb_S256_S16_112 rfl x, ?_⟩
    refine List.forall_mem_cons.mpr ⟨fun x => places_piece f (128 * ((L 1).val % 2)) 6 128 rfl (by decide) ![96] inb_S256_S16_96 rfl x, ?_⟩
    refine List.forall_mem_cons.mpr ⟨fun x => places_piece f (128 * ((L 1).val % 2)) 5 128 rfl (by decide) ![80] inb_S256_S16_80 rfl x, ?_⟩
    refine List.forall_mem_cons.mpr ⟨fun x => places_piece f (128 * ((L 1).val % 2)) 4 128 rfl (by decide) ![64] inb_S256_S16_64 rfl x, ?_⟩
    refine List.forall_mem_cons.mpr ⟨fun x => places_piece f (128 * ((L 1).val % 2)) 3 128 rfl (by decide) ![48] inb_S256_S16_48 rfl x, ?_⟩
    refine List.forall_mem_cons.mpr ⟨fun x => places_piece f (128 * ((L 1).val % 2)) 2 128 rfl (by decide) ![32] inb_S256_S16_32 rfl x, ?_⟩
    refine List.forall_mem_cons.mpr ⟨fun x => places_piece f (128 * ((L 1).val % 2)) 1 128 rfl (by decide) ![16] inb_S256_S16_16 rfl x, ?_⟩
    refine List.forall_mem_cons.mpr ⟨fun x => places_piece f (128 * ((L 1).val % 2)) 0 128 rfl (by decide) ![0] inb_S256_S16_0 rfl x, ?_⟩
    exact fun p hp => absurd hp List.not_mem_nil
  have hd1 : tile_body.sl.dma32 d L f1 f = tileMax f (128 * ((L 1).val % 2)) := by unfold tile_body.sl.dma32; rw [hmax]; rfl
  have hd2 : tile_body.sl.dma32_1 d L f2 f = tileIdx f (128 * ((L 1).val % 2)) := by unfold tile_body.sl.dma32_1; rw [hidx]; rfl
  rw [hmax, hidx, hd1, hd2]
  have ewm : ((shMaxWin L).view.loc (V d (cV L) (jV L)) ↦[(shMaxWin L).view.set]{fullShare} (shMaxWin L).view.writes (Elt F) fsm [⟨Rect.whole S256, tileMax f (128 * ((L 1).val % 2))⟩] : sProp 𝕄)
      = (maxLoc d (cV L) ↦[rowSet (L 1).val]{fullShare} sharedMax (m (xLoc d)) (cV L).val) := by
    rw [esm]
    exact pointsTo_congr fun y hy => row_written (shMaxWin L).view fsm _ (sharedMax (m (xLoc d)) (cV L).val) (fun j => by rw [← hf]; exact (congrFun (read_shMaxWin L (m (xLoc d))) j).symm) y hy
  have ewi : ((shIdxWin L).view.loc (V d (cV L) (jV L)) ↦[(shIdxWin L).view.set]{fullShare} (shIdxWin L).view.writes (Elt F) fsi [⟨Rect.whole S256, tileIdx f (128 * ((L 1).val % 2))⟩] : sProp 𝕄)
      = (idxLoc d (cV L) ↦[rowSet (L 1).val]{fullShare} sharedIdx (m (xLoc d)) (cV L).val) := by
    rw [esi]
    exact pointsTo_congr fun y hy => row_written (shIdxWin L).view fsi _ (sharedIdx (m (xLoc d)) (cV L).val) (fun j => by rw [← hf]; exact (congrFun (read_shIdxWin L (m (xLoc d))) j).symm) y hy
  ihave Hans := (show iprop(((shMaxWin L).view.loc (V d (cV L) (jV L)) ↦[(shMaxWin L).view.set]{fullShare} (shMaxWin L).view.writes (Elt F) fsm [⟨Rect.whole S256, tileMax f (128 * ((L 1).val % 2))⟩])
      ∗ ((shIdxWin L).view.loc (V d (cV L) (jV L)) ↦[(shIdxWin L).view.set]{fullShare} (shIdxWin L).view.writes (Elt F) fsi [⟨Rect.whole S256, tileIdx f (128 * ((L 1).val % 2))⟩]))
      ⊢ (answers m d (cV L) (L 1).val : sProp 𝕄) from by rw [ewm, ewi]; exact BI.Entails.refl _) $$ [Hsm' Hsi']
  · isplitl [Hsm']; · iexact Hsm'
    iexact Hsi'
  -- the barrier
  ihave Hin := (hand_in m d L) $$ Hans
  icases Hin with ⟨Hkeep, Hpays⟩
  iapply (SparseCore.wp_subcoreBarrier 𝒱₀ none EB (bRd m) d (sc := cV L) (i := jV L) sc_bar0 (grid0.bound 1) hsub0 (L 1) rfl κ (fun _ => 0) (jV L).val
      (fun j => bRd_mem₀ m d _ _ _) (fun _ => rfl) (bRd_expect m d _ _) (some 0) O _) $$ [HO Htoks Hpays Hcred Hat]
  · isplitr; · iexact Hinv
    isplitl [HO]; · iexact HO
    isplitl [Htoks Hpays]
    · rw [bigSep_sep', bigSep_sep']
      isplitl [Htoks]; · iexact Htoks
      isplitl [Hpays]; · iexact Hpays
      iexact Hrch
    isplitl [Hcred]; · iexact Hcred
    isplitl [Hat]; · iexact Hat
    iapply ((K (F := F)).mayOwe_of_bound (thr := V d (cV L) (jV L)) 3 (fun p hp => by
        rw [Finset.mem_singleton] at hp; subst hp
        show (K (F := F)).lev (bcell d (cV L) (jV L)) (some 0) ≤ 3
        rw [(K (F := F)).lev_V_reg d _ _ (show (sc_bar0 : Sem sig) ≠ (K (F := F)).go from sc_bar0_ne_go)]; exact le_rfl)
      (fun g ι hg => lt_of_lt_of_le (by decide) (hOlev g ι hg)))
    iexact Hlv
  iintro ⟨HO, Hat, -, Hgot⟩
  imod (Rounds.cell_close EB (bRd m) (g := bcell d (cV L) (jV L)) (Set.mem_univ (κ _)) (fun h => h) (bRd_duties_succ m _)) $$ [Hat] with Hbar
  · isplitr
    · iapply (SparseCore.ent (bigSep_elim (Φ := fun j : Fin (grid0.bound 1) =>
        (cellInv EB (bRd m) (κ (bcell d (cV L) (j.castLE hsub0))) (bcell d (cV L) (j.castLE hsub0)) : sProp 𝕄)) (Finset.mem_univ (L 1)))); iexact Hinv
    · iexact Hat
  ihave Hout := (hand_out m d L) $$ Hgot
  by_cases k0_h1 : k0_cond1 L = 1#1
  · have hev := (cond1_iff L).mp k0_h1
    have ea : ∀ i, ((if (L 1).val % 2 = 0 then answers m d (cV L) i else iprop(emp)) : sProp 𝕄)
        = iprop((maxLoc d (cV L) ↦[rowSet i]{fullShare} sharedMax (m (xLoc d)) (cV L).val)
          ∗ (idxLoc d (cV L) ↦[rowSet i]{fullShare} sharedIdx (m (xLoc d)) (cV L).val)) := fun i => if_pos hev
    ihave Hkeep' := (Entails.of_eq (ea _)) $$ Hkeep
    ihave Hout' := (Entails.of_eq (ea _)) $$ Hout
    icases Hkeep' with ⟨Hk1, Hk2⟩
    icases Hout' with ⟨Hn1, Hn2⟩
    have en1 : ∀ f, (maxLoc d (cV L) ↦[rowSet ((L 1).val + 1)]{fullShare} f : sProp 𝕄)
        = ((shMaxWin2 L k0_h1).view.loc (V d (cV L) (jV L)) ↦[(shMaxWin2 L k0_h1).view.set]{fullShare} f) := fun f => by rw [set_shMaxWin2]; rfl
    have en2 : ∀ f, (idxLoc d (cV L) ↦[rowSet ((L 1).val + 1)]{fullShare} f : sProp 𝕄)
        = ((shIdxWin2 L k0_h1).view.loc (V d (cV L) (jV L)) ↦[(shIdxWin2 L k0_h1).view.set]{fullShare} f) := fun f => by rw [set_shIdxWin2]; rfl
    have eo : ∀ f, (oLoc d ↦[oSet (cV L).val (L 1).val]{fullShare} f : sProp 𝕄)
        = ((oWin L k0_h1).view.loc (V d (cV L) (jV L)) ↦[(oWin L k0_h1).view.set]{fullShare} f) := fun f => by rw [set_oWin]; rfl
    ihave Hn1' := (Entails.of_eq (en1 _)) $$ Hn1
    ihave Hn2' := (Entails.of_eq (en2 _)) $$ Hn2
    ihave Ho' := (Entails.of_eq (eo _)) $$ Ho
    sl_exec
    have hpm : (pmaxV).view.write (Elt F) f3 (tile_body.sl.dma0_1 m d L k0_h1) Finset.univ
        = tileMax (rows (m (xLoc d)) (8 * (L 0).val + (L 1).val / 2) 1) 128 := by
      rw [← read_shMaxWin2 L k0_h1]; exact View.write_whole_univ _ _ _
    have hpi : (pidxV).view.write (Elt F) f4 (tile_body.sl.dma0_2 m d L k0_h1) Finset.univ
        = tileIdx (rows (m (xLoc d)) (8 * (L 0).val + (L 1).val / 2) 1) 128 := by
      rw [← read_shIdxWin2 L k0_h1]; exact View.write_whole_univ _ _ _
    -- the sixteen stores of the result's row, and the row
    have hres : (resV).view.writes (Elt F) f5 (tile_body.sl.Hres'_16 m d L f3 f4 f k0_h1)
        = pick ((pmaxV).view.write (Elt F) f3 (tile_body.sl.dma0_1 m d L k0_h1) Finset.univ) (tileMax f (128 * ((L 1).val % 2)))
            ((pidxV).view.write (Elt F) f4 (tile_body.sl.dma0_2 m d L k0_h1) Finset.univ) (tileIdx f (128 * ((L 1).val % 2))) := by
      refine View.contents_ext _ (fun y => ?_) (fun i hi => absurd rfl (hi i))
      unfold tile_body.sl.Hres'_16
      refine View.read_writes_apply_of_pieces (Val := Elt F) (resV).view f5 (pick ((pmaxV).view.write (Elt F) f3 (tile_body.sl.dma0_1 m d L k0_h1) Finset.univ) (tileMax f (128 * ((L 1).val % 2)))
            ((pidxV).view.write (Elt F) f4 (tile_body.sl.dma0_2 m d L k0_h1) Finset.univ) (tileIdx f (128 * ((L 1).val % 2)))) _ ?_ y ?_
      rotate_left
      · exact View.cover_of_tiled (Val := Elt F) _ ![16] rfl y
      refine List.forall_mem_cons.mpr ⟨fun x => pick_piece _ _ _ _ ![240] inb_S256_S16_240 x, ?_⟩
      refine List.forall_mem_cons.mpr ⟨fun x => pick_piece _ _ _ _ ![224] inb_S256_S16_224 x, ?_⟩
      refine List.forall_mem_cons.mpr ⟨fun x => pick_piece _ _ _ _ ![208] inb_S256_S16_208 x, ?_⟩
      refine List.forall_mem_cons.mpr ⟨fun x => pick_piece _ _ _ _ ![192] inb_S256_S16_192 x, ?_⟩
      refine List.forall_mem_cons.mpr ⟨fun x => pick_piece _ _ _ _ ![176] inb_S256_S16_176 x, ?_⟩
      refine List.forall_mem_cons.mpr ⟨fun x => pick_piece _ _ _ _ ![160] inb_S256_S16_160 x, ?_⟩
      refine List.forall_mem_cons.mpr ⟨fun x => pick_piece _ _ _ _ ![144] inb_S256_S16_144 x, ?_⟩
      refine List.forall_mem_cons.mpr ⟨fun x => pick_piece _ _ _ _ ![128] inb_S256_S16_128 x, ?_⟩
      refine List.forall_mem_cons.mpr ⟨fun x => pick_piece _ _ _ _ ![112] inb_S256_S16_112 x, ?_⟩
      refine List.forall_mem_cons.mpr ⟨fun x => pick_piece _ _ _ _ ![96] inb_S256_S16_96 x, ?_⟩
      refine List.forall_mem_cons.mpr ⟨fun x => pick_piece _ _ _ _ ![80] inb_S256_S16_80 x, ?_⟩
      refine List.forall_mem_cons.mpr ⟨fun x => pick_piece _ _ _ _ ![64] inb_S256_S16_64 x, ?_⟩
      refine List.forall_mem_cons.mpr ⟨fun x => pick_piece _ _ _ _ ![48] inb_S256_S16_48 x, ?_⟩
      refine List.forall_mem_cons.mpr ⟨fun x => pick_piece _ _ _ _ ![32] inb_S256_S16_32 x, ?_⟩
      refine List.forall_mem_cons.mpr ⟨fun x => pick_piece _ _ _ _ ![16] inb_S256_S16_16 x, ?_⟩
      refine List.forall_mem_cons.mpr ⟨fun x => pick_piece _ _ _ _ ![0] inb_S256_S16_0 x, ?_⟩
      exact fun p hp => absurd hp List.not_mem_nil
    have hrow : ∀ j, tile_body.sl.dma96 m d L f3 f4 f5 f k0_h1 j = (oWin L k0_h1).view.read (Elt F) (goal m d) j := fun j => by
      unfold tile_body.sl.dma96
      rw [hres, hpm, hpi, read_oWin, ← hf, hev]
      exact pick_out _ _ j
    have ego : ((oWin L k0_h1).view.loc (V d (cV L) (jV L)) ↦[(oWin L k0_h1).view.set]{fullShare}
          (oWin L k0_h1).view.writes (Elt F) (m (oLoc d)) [⟨Rect.whole S256, tile_body.sl.dma96 m d L f3 f4 f5 f k0_h1⟩] : sProp 𝕄)
        = oPart d (cV L).val (L 1).val (goal m d) := by
      rw [oPart, eo]
      exact pointsTo_congr fun y hy => row_written (oWin L k0_h1).view (m (oLoc d)) _ (goal m d) hrow y hy
    sl_step
    isplitl [Hx' Ho' Hk1 Hk2 Hn1' Hn2' Hbar]
    · isplitr [Hbar]; swap; · iexact Hbar
      isplitl [Hx']; · iapply (Entails.of_eq ex.symm); iexact Hx'
      isplitl [Ho']; · iapply (Entails.of_eq ego); iexact Ho'
      iapply (answers_pair m d L hev)
      isplitl [Hk1 Hk2]
      · isplitl [Hk1]; · iexact Hk1
        iexact Hk2
      isplitl [Hn1']; · iapply (Entails.of_eq (en1 _).symm); iexact Hn1'
      iapply (Entails.of_eq (en2 _).symm); iexact Hn2'
    isplitl [Hbuf' Hmax' Hidx' Hpmax' Hpidx' Hres' Hbufs]
    · isplitl [Hbuf']; · iexists _; iexact Hbuf'
      isplitl [Hmax']; · iexists _; iexact Hmax'
      isplitl [Hidx']; · iexists _; iexact Hidx'
      isplitl [Hpmax']; · iexists _; iexact Hpmax'
      isplitl [Hpidx']; · iexists _; iexact Hpidx'
      isplitl [Hres']; · iexists _; iexact Hres'
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro; intro p hp
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp
  · have hev : ¬ (L 1).val % 2 = 0 := fun h => k0_h1 ((cond1_iff L).mpr h)
    have ego : (oPart d (cV L).val (L 1).val (m (oLoc d)) : sProp 𝕄) = oPart d (cV L).val (L 1).val (goal m d) :=
      pointsTo_congr fun y hy => absurd (oSet_odd _ _ hev ▸ hy) (Finset.notMem_empty y)
    sl_exec
    sl_step
    isplitl [Hx' Ho Hbar]
    · isplitr [Hbar]; swap; · iexact Hbar
      isplitl [Hx']; · iapply (Entails.of_eq ex.symm); iexact Hx'
      isplitl [Ho]; · iapply (Entails.of_eq ego); iexact Ho
      iapply (none_pair d (cV L) (L 1).val hev)
      iempintro
    isplitl [Hbuf' Hmax' Hidx' Hpmax' Hpidx' Hres' Hbufs]
    · isplitl [Hbuf']; · iexists _; iexact Hbuf'
      isplitl [Hmax']; · iexists _; iexact Hmax'
      isplitl [Hidx']; · iexists _; iexact Hidx'
      isplitl [Hpmax']; · iexists _; iexact Hpmax'
      isplitl [Hpidx']; · iexists _; iexact Hpidx'
      isplitl [Hres']; · iexists _; iexact Hres'
      iexact Hbufs
    isplitl [Hs0 Hs1 Hs2 Hs3 Hs4 Hs5 Hsems]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      iexact Hsems
    iexists _; isplitr
    swap; · iexact HO
    ipureintro; intro p hp
    rcases Finset.mem_insert.mp hp with hp | hp; · exact .inr (.inr (hp ▸ rfl))
    rcases Finset.mem_insert.mp hp with hp | hp; · exact .inr (.inl (hp ▸ rfl))
    rcases Finset.mem_insert.mp hp with hp | hp; · exact .inr (.inl (hp ▸ rfl))
    rcases Finset.mem_insert.mp hp with hp | hp; · exact .inr (.inl (hp ▸ rfl))
    exact .inl hp

end Cert.Proof.Run

end
-- ==== Proof.Launch.lean ====
/-
  The launch: how the input, the result and the shared arrays are dealt to the tiles and gathered again, what the barrier
  needs at the start, the run of @main, and the run of the whole program.
-/
module

public import proofs.«01_k».proof.Proof.Tile

@[expose] public section

noncomputable section

namespace Cert.Proof.Run

open Cert.KernelIdeal Cert.KernelIdeal.Gen Cert.Proof.Scan

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (m : (ℓ : Loc nD τ sig) → Buf (Elt F) ℓ) (ρ : Dev nD → PrngReg) [FloatOps F]

/-! ## The obligation of a tile -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__argmax_sc (coordsV c s) xV (Memref.isWhole_whole _) oV (Memref.isWhole_whole _) bufV (Memref.isWhole_whole _)
          maxV (Memref.isWhole_whole _) idxV (Memref.isWhole_whole _) pmaxV (Memref.isWhole_whole _) pidxV (Memref.isWhole_whole _) resV (Memref.isWhole_whole _)
          shMaxV (Memref.isWhole_whole _) shIdxV (Memref.isWhole_whole _) cc0_scoped0 cc0_scoped1 cc0_scoped2 cc0_scoped3 cc0_scoped4 cc0_scoped5) ⟨⟩ c s := rfl

set_option maxRecDepth 16384 in
/-- Every tile keeps its obligation: `tile_body` at its coordinates. -/
theorem tileObl (hF : (K (F := F)).Facts) : (K (F := F)).TileObl (D (F := F)) 𝒱 (P m) v₀ 0 := by
  intro d c i O W hO hOlev _
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m hF d (coordsV ⟨_, hci.1⟩ ⟨_, hci.2⟩) O W hO hOlev

/-! ## Arrays cut into parts and joined -/

omit [FloatOps F] in
/-- An array cut into disjoint parts that cover it. -/
theorem cut_parts {T : Type} [Fintype T] {ℓ : Loc nD τ sig} (A : T → Finset (Idx ℓ)) (hd : ∀ t ∈ Finset.univ, ∀ t' ∈ Finset.univ, t ≠ t' → Disjoint (A t) (A t'))
    (hc : Finset.univ.biUnion A = Finset.univ) (f : Buf (Elt F) ℓ) : (ℓ ↦{fullShare} f : sProp 𝕄) = bigSep Finset.univ fun t => ℓ ↦[A t]{fullShare} f := by
  rw [← pointsTo_biUnion Finset.univ A hd, hc]

omit [FloatOps F] in
/-- Its parts joined, each at contents of its own. -/
theorem join_parts {T : Type} [Fintype T] [DecidableEq T] {ℓ : Loc nD τ sig} [Nonempty (Buf (Elt F) ℓ)] (A : T → Finset (Idx ℓ))
    (hd : ∀ t ∈ Finset.univ, ∀ t' ∈ Finset.univ, t ≠ t' → Disjoint (A t) (A t')) (hc : Finset.univ.biUnion A = Finset.univ) :
    (bigSep Finset.univ fun t => iprop(∃ f, ℓ ↦[A t]{fullShare} f)) ⊢ (iprop(∃ f, ℓ ↦{fullShare} f) : sProp 𝕄) := by
  refine (bigSep_exists_pi Finset.univ (fun t (f : Buf (Elt F) ℓ) => ℓ ↦[A t]{fullShare} f)).trans ?_
  iintro ⟨%fs, H⟩
  ihave H' := (pointsTo_biUnion_join Finset.univ A fs (Classical.arbitrary _) hd) $$ H
  icases H' with ⟨%g, -, Hg⟩
  rw [hc]
  iexists g; iexact Hg

theorem rowSet_disj : ∀ i ∈ (Finset.univ : Finset (Fin 16)), ∀ j ∈ (Finset.univ : Finset (Fin 16)), i ≠ j → Disjoint (rowSet i.val) (rowSet j.val) :=
  fun i _ j _ h => Finset.disjoint_left.mpr fun y hi hj => h (Fin.ext ((mem_rowSet.mp hi).symm.trans (mem_rowSet.mp hj)))
theorem rowSet_cover : (Finset.univ : Finset (Fin 16)).biUnion (fun i => rowSet i.val) = Finset.univ :=
  Finset.eq_univ_of_forall fun y => Finset.mem_biUnion.mpr ⟨y 0, Finset.mem_univ _, mem_rowSet.mpr rfl⟩
theorem endSet_disj : ∀ i ∈ (Finset.univ : Finset (Fin 16)), ∀ j ∈ (Finset.univ : Finset (Fin 16)), i ≠ j → Disjoint (endSet i.val) (endSet j.val) :=
  fun i _ j _ h => Finset.disjoint_left.mpr fun y hi hj => h (Fin.ext (by
    have h1 := mem_endSet.mp hi; have h2 := mem_endSet.mp hj; omega))
theorem endSet_cover : (Finset.univ : Finset (Fin 16)).biUnion (fun i => endSet i.val) = Finset.univ :=
  Finset.eq_univ_of_forall fun y => by
    have hy : (y 0).val < 16 := (y 0).isLt
    exact Finset.mem_biUnion.mpr ⟨⟨(y 0).val / 2 * 2, by omega⟩, Finset.mem_univ _, mem_endSet.mpr ⟨by show (y 0).val / 2 * 2 % 2 = 0; omega, by show (y 0).val / 2 = (y 0).val / 2 * 2 / 2; omega⟩⟩

theorem xSet_disj : ∀ p ∈ (Finset.univ : Finset (Fin 2 × Fin 16)), ∀ q ∈ (Finset.univ : Finset (Fin 2 × Fin 16)), p ≠ q →
    Disjoint (xSet p.1.val p.2.val) (xSet q.1.val q.2.val) :=
  fun p _ q _ h => Finset.disjoint_left.mpr fun y hp hq => h (by
    have h1 := mem_xSet.mp hp; have h2 := mem_xSet.mp hq
    have := p.1.isLt; have := q.1.isLt; have := p.2.isLt; have := q.2.isLt
    exact Prod.ext (Fin.ext (by omega)) (Fin.ext (by omega)))
theorem xSet_cover : (Finset.univ : Finset (Fin 2 × Fin 16)).biUnion (fun p => xSet p.1.val p.2.val) = Finset.univ :=
  Finset.eq_univ_of_forall fun y => by
    have hy : (y 0).val < 16 := (y 0).isLt
    have hy1 : (y 1).val < 256 := (y 1).isLt
    exact Finset.mem_biUnion.mpr ⟨(⟨(y 0).val / 8, by omega⟩, ⟨(y 0).val % 8 * 2 + (y 1).val / 128, by omega⟩), Finset.mem_univ _,
      mem_xSet.mpr ⟨by dsimp only; omega, by dsimp only; omega⟩⟩
theorem oSet_disj : ∀ p ∈ (Finset.univ : Finset (Fin 2 × Fin 16)), ∀ q ∈ (Finset.univ : Finset (Fin 2 × Fin 16)), p ≠ q →
    Disjoint (oSet p.1.val p.2.val) (oSet q.1.val q.2.val) :=
  fun p _ q _ h => Finset.disjoint_left.mpr fun y hp hq => h (by
    have h1 := mem_oSet.mp hp; have h2 := mem_oSet.mp hq
    have := p.1.isLt; have := q.1.isLt; have := p.2.isLt; have := q.2.isLt
    exact Prod.ext (Fin.ext (by omega)) (Fin.ext (by omega)))
theorem oSet_cover : (Finset.univ : Finset (Fin 2 × Fin 16)).biUnion (fun p => oSet p.1.val p.2.val) = Finset.univ :=
  Finset.eq_univ_of_forall fun y => by
    have hy : (y 0).val < 16 := (y 0).isLt
    exact Finset.mem_biUnion.mpr ⟨(⟨(y 0).val / 8, by omega⟩, ⟨(y 0).val % 8 * 2, by omega⟩), Finset.mem_univ _,
      mem_oSet.mpr ⟨by dsimp only; omega, by dsimp only; omega⟩⟩

omit [FloatOps F] in
/-- The input is both cores' sixteen parts of it; -/
theorem xPts_eq (d : Dev nD) : (xPts m d : sProp 𝕄) = bigSep Finset.univ fun c : Fin 2 => xCore m d c.val :=
  (cut_parts (ℓ := xLoc d) (fun p : Fin 2 × Fin 16 => xSet p.1.val p.2.val) xSet_disj xSet_cover _).trans
    (bigSep_univ_prod fun p : Fin 2 × Fin 16 => (xPart m d p.1.val p.2.val : sProp 𝕄))
omit [FloatOps F] in
/-- and so the result. -/
theorem oPts_eq (d : Dev nD) (f : Buf (Elt F) (oLoc d)) : (oPts d f : sProp 𝕄) = bigSep Finset.univ fun c : Fin 2 => oCore d c.val f :=
  (cut_parts (ℓ := oLoc d) (fun p : Fin 2 × Fin 16 => oSet p.1.val p.2.val) oSet_disj oSet_cover _).trans
    (bigSep_univ_prod fun p : Fin 2 × Fin 16 => (oPart d p.1.val p.2.val f : sProp 𝕄))

/-! ## What a SparseCore deals to its tiles, and gathers from them -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

omit [FloatOps F] in
/-- The two shared arrays are among the sequencer's own buffers: they, at some contents, and the rest. -/
theorem ownBufs_S (d : Dev nD) (c : Fin τ.nSC) : ∃ R : sProp 𝕄,
    (ownBufs (S d c) : sProp 𝕄) = iprop((∃ f, maxLoc d c ↦{fullShare} f) ∗ (∃ f, idxLoc d c ↦{fullShare} f) ∗ R) := by
  unfold SparseCore.Cfg.ownBufs
  have h1 : maxRef c ∈ ownRefs (τ := τ) (sig := sig) (.scScalar c) := (mem_ownRefs (p := Proc.scScalar c) (b := maxRef c)).mpr rfl
  have h2 : idxRef c ∈ ownRefs (τ := τ) (sig := sig) (.scScalar c) := (mem_ownRefs (p := Proc.scScalar c) (b := idxRef c)).mpr rfl
  have hne : idxRef c ≠ maxRef c := fun e => by
    have : (idxRef c).idx.val = (maxRef c).idx.val := congrArg (fun b : DevRef τ sig => b.idx.val) e
    exact Nat.one_ne_zero this
  exact ⟨_, by rw [SparseCore.bigSep_erase' h1, SparseCore.bigSep_erase' (Finset.mem_erase.mpr ⟨hne, h2⟩)]⟩

/-- A core's input, result and shared arrays are its sixteen tiles' parts, before the call and after it. -/
theorem vecSplit [∀ e, Nonempty (Elt F e)] : (K (F := F)).VecSplit (P m) 0 := by
  intro d c
  obtain ⟨R, hR⟩ := ownBufs_S (F := F) d (coreOf c)
  show iprop(iprop(xCore m d (coreOf c).val ∗ oCore d (coreOf c).val (m (oLoc d))) ∗ ownBufs (S d (coreOf c))) ⊢ |={Set.univ}=> iprop(
      (bigSep Finset.univ fun i : Fin ((K (F := F)).nSub 0) => taskIn m d (coreOf c) (Fin.cast nSub_zero i).val)
      ∗ ((bigSep Finset.univ fun i : Fin ((K (F := F)).nSub 0) => iprop(taskOut m d (coreOf c) (Fin.cast nSub_zero i).val
            ∗ semVal (bcell d (coreOf c) ((K (F := F)).sub 0 i)) 0))
          -∗ iprop(iprop((xCore m d (coreOf c).val ∗ oCore d (coreOf c).val (goal m d)) ∗ bars d (coreOf c)) ∗ ownBufs (S d (coreOf c)))))
  rw [bigSep_sep' _ (fun i : Fin ((K (F := F)).nSub 0) => taskOut m d (coreOf c) (Fin.cast nSub_zero i).val),
    bigSep_tasks (F := F) (fun i => taskIn m d (coreOf c) i.val), bigSep_tasks (F := F) (fun i => taskOut m d (coreOf c) i.val),
    bigSep_sep', bigSep_sep', bigSep_sep', bigSep_sep', bigSep_sep', bigSep_sep', hR]
  have hmx : ∀ f, (maxLoc d (coreOf c) ↦{fullShare} f : sProp 𝕄) ⊢ bigSep Finset.univ fun i : Fin 16 => iprop(∃ f, maxLoc d (coreOf c) ↦[rowSet i.val]{fullShare} f) :=
    fun f => (Entails.of_eq (cut_parts (ℓ := maxLoc d (coreOf c)) (fun i : Fin 16 => rowSet i.val) rowSet_disj rowSet_cover f)).trans
      (SparseCore.ent (bigSep_mono fun i _ => BI.BIClass.exists_intro (Φ := fun f => (maxLoc d (coreOf c) ↦[rowSet i.val]{fullShare} f : sProp 𝕄)) f))
  have hix : ∀ f, (idxLoc d (coreOf c) ↦{fullShare} f : sProp 𝕄) ⊢ bigSep Finset.univ fun i : Fin 16 => iprop(∃ f, idxLoc d (coreOf c) ↦[rowSet i.val]{fullShare} f) :=
    fun f => (Entails.of_eq (cut_parts (ℓ := idxLoc d (coreOf c)) (fun i : Fin 16 => rowSet i.val) rowSet_disj rowSet_cover f)).trans
      (SparseCore.ent (bigSep_mono fun i _ => BI.BIClass.exists_intro (Φ := fun f => (idxLoc d (coreOf c) ↦[rowSet i.val]{fullShare} f : sProp 𝕄)) f))
  iintro ⟨⟨Hx, Ho⟩, ⟨%fm, Hm⟩, ⟨%fi, Hi⟩, Hrest⟩; imodintro
  isplitl [Hx Ho Hm Hi]
  · isplitl [Hx]; · iexact Hx
    isplitl [Ho]; · iexact Ho
    isplitl [Hm]; · iapply (hmx fm); iexact Hm
    iapply (hix fi); iexact Hi
  iintro ⟨⟨Hx, Ho, Hm, Hi⟩, Hbars⟩
  isplitl [Hx Ho Hbars]
  · isplitr [Hbars]; swap; · iexact Hbars
    isplitl [Hx]; · iexact Hx
    iexact Ho
  isplitl [Hm]; · iapply (join_parts (ℓ := maxLoc d (coreOf c)) (fun i : Fin 16 => endSet i.val) endSet_disj endSet_cover); iexact Hm
  isplitl [Hi]; · iapply (join_parts (ℓ := idxLoc d (coreOf c)) (fun i : Fin 16 => endSet i.val) endSet_disj endSet_cover); iexact Hi
  iexact Hrest

/-! ## The barrier at the launch -/

abbrev DCI : Type := Dev nD × Fin τ.nSC × Fin τ.nSub
abbrev bcell₃ (x : DCI) : GSem nD τ sig := bcell x.1 x.2.1 x.2.2

/-- The barrier cells: of the free semaphores, the ones taken at the launch. -/
def bCells : Finset (GSem nD τ sig) := (Finset.univ : Finset DCI).image bcell₃
/-- Every tile's token in every cell of its SparseCore. -/
def bToks : Finset (GSem nD τ sig × ℕ × ℕ) :=
  ((Finset.univ : Finset DCI) ×ˢ Finset.univ).image fun x : DCI × Fin (grid0.bound 1) => (bcell x.1.1 x.1.2.1 (x.2.castLE hsub0), 0, x.1.2.2.val)
def u₀ : UU := (initOf (K (F := F)).hsCells (K (F := F)).hsToks, (initOf bCells bToks, 1))

theorem bcell₃_injective : Function.Injective (bcell₃ : DCI → GSem nD τ sig) := fun a b e => by
  obtain ⟨h1, h2⟩ := Prod.mk.inj (Prod.mk.inj e).1; obtain ⟨h3, h4⟩ := Proc.scVector.inj h2
  exact Prod.ext h1 (Prod.ext h3 h4)

omit [FloatOps F] in
theorem ownU_split (a : UH) (b : UB) : (ownU ((a, (b, 1)) : UU) : sProp 𝕄) ⊢ iprop(BI.own (EH a) ∗ BI.own (EB b)) :=
  BI.own_op_elim ((uEmb (nD := nD) (sig := sig) (Ix := HIx 1) (Val := Elt F) (Name := ℕ) (U := UU) (Lvl := ℕ)).toEmb.op_of_mem
    (Prod.mk_mem_op (URA.mem_op_one a) (URA.mem_one_op (b, (1 : Counters)))))

omit [FloatOps F] in
theorem bCells_eq (Φ : GSem nD τ sig → sProp 𝕄) : bigSep bCells Φ = bigSep Finset.univ fun x : DCI => Φ (bcell₃ x) := by
  unfold bCells; exact SparseCore.bigSep_image_of_injOn (fun a _ b _ e => bcell₃_injective e) Φ

omit [FloatOps F] in
/-- Every barrier semaphore at zero, out of the free semaphores the launch hands over. -/
theorem sems_b : ((K (F := F)).freeOn (· ∈ bCells) : sProp 𝕄) ⊢ bigSep bCells fun g => semVal g 0 := by
  rw [bCells_eq]
  unfold SparseCore.Cfg.freeOn
  refine sep_elim_right.trans (bigSep_mono fun dci _ => ?_)
  exact bigSep_elim (Φ := fun sm : SemLoc sig => (semVal (V dci.1 dci.2.1 dci.2.2, sm) 0 : sProp 𝕄)) (Finset.mem_filter.mpr
      ⟨Finset.mem_erase.mpr ⟨fun h => sc_bar0_ne_go (SemLoc.reg.inj h), Finset.mem_filter.mpr ⟨Finset.mem_univ _, by decide⟩⟩,
        Finset.mem_image_of_mem bcell₃ (Finset.mem_univ dci)⟩)

/-- The barrier cells' invariants, allocated at once. -/
theorem invs_b : iprop((bigSep bCells fun g => (semVal g 0 : sProp 𝕄)) ∗ bigSep bCells fun g => roundState EB (bRd m) g 0)
    ⊢ |={Set.univ}=> iprop(∃ κ : GSem nD τ sig → ℕ, bigSep bCells fun g => cellInv EB (bRd m) (κ g) g) := by
  refine (Rounds.bodies_intro EB (bRd m) bCells).trans ((inv_alloc_family bCells (Rounds.body EB (bRd m)) ∅ (E := Set.univ)).trans ?_)
  iintro H
  imod H with ⟨%κ, -, Hinv⟩
  imodintro; iexists κ; iexact Hinv

theorem sum_tallyAt_one (g : GSem nD τ sig) (ι : HIx 1) (n : ℕ) : ∑ _ : Fin n, tallyAt g ι 1 = (tallyAt g ι n : CellTallies nD τ sig (HIx 1)) := by
  induction n with
  | zero => rw [Fin.sum_univ_zero, tallyAt_zero]
  | succ n ih => rw [Fin.sum_univ_castSucc, ih, tallyAt_add]

/-- The credit for the tiles' own debts, regrouped: each tile the sixteen units of its own cell. -/
theorem creds_b : ((P m).oxCred : sProp 𝕄) ⊢ bigSep Finset.univ fun dci : DCI => cred (tallyAt (bcell₃ dci) (some 0) (grid0.bound 1)) := by
  unfold SparseCore.Cfg.Pay.oxCred
  rw [SparseCore.Cfg.bigSep_threads (fun thr : Thread nD τ => (cred ((P m).oxFrom 0 thr) : sProp 𝕄))]
  refine sep_elim_right.trans (sep_elim_right.trans ?_)
  rw [bigSep_univ_prod, bigSep_univ_prod (fun dci : DCI => (cred (tallyAt (bcell₃ dci) (some 0) (grid0.bound 1)) : sProp 𝕄))]
  refine bigSep_mono fun d _ => ?_
  rw [bigSep_univ_prod, bigSep_univ_prod (fun ci : Fin τ.nSC × Fin τ.nSub => (cred (tallyAt (bcell₃ (d, ci)) (some 0) (grid0.bound 1)) : sProp 𝕄))]
  refine bigSep_mono fun c _ => ?_
  have hox : ∀ i, (P m).oxFrom 0 (V d c i) = oxV d c := fun i => by
    rw [show (0 : ℕ) = (0 : Fin 1).val from rfl, (P m).oxFrom_step, (P m).oxFrom_end _ (n := (0 : Fin 1).val + 1) le_rfl, add_zero]; rfl
  simp only [hox]
  unfold oxV
  rw [SparseCore.Cfg.cred_finsum, bigSep_univ_comm]
  refine bigSep_mono fun j _ => ?_
  rw [← SparseCore.Cfg.cred_finsum, sum_tallyAt_one]; rfl

omit [FloatOps F] in
/-- A persistent resource beside a big separating conjunction goes to each conjunct. -/
theorem deal_persistent {I : Type} [DecidableEq I] {R : sProp 𝕄} [BI.Persistent R] (s : Finset I) {Φ Ψ : I → sProp 𝕄}
    (h : ∀ i, iprop(R ∗ Φ i) ⊢ Ψ i) : iprop(R ∗ bigSep s Φ) ⊢ bigSep s Ψ := by
  induction s using Finset.induction_on with
  | empty => rw [bigSep_empty, bigSep_empty]; exact sep_elim_right
  | insert a s ha ih =>
    rw [SparseCore.bigSep_insert' ha, SparseCore.bigSep_insert' ha]
    iintro ⟨#HR, H1, H2⟩
    isplitl [H1]
    · iapply (h a); isplitr; · iexact HR
      iexact H1
    · iapply ih; isplitr; · iexact HR
      iexact H2

omit [FloatOps F] in
theorem toks_eq : (bigSep bToks fun x => (dutyTok EB x.1 x.2.1 x.2.2 : sProp 𝕄))
    = bigSep Finset.univ fun dci : DCI => bigSep Finset.univ fun j : Fin (grid0.bound 1) => dutyTok EB (bcell dci.1 dci.2.1 (j.castLE hsub0)) 0 dci.2.2.val := by
  unfold bToks
  rw [SparseCore.bigSep_image_of_injOn, SparseCore.bigSep_product]
  rintro ⟨⟨d, c, i⟩, j⟩ - ⟨⟨d', c', i'⟩, j'⟩ - e
  have e1 := (Prod.mk.inj (Prod.mk.inj e).1).1
  have e2 : i.val = i'.val := (Prod.mk.inj (Prod.mk.inj e).2).2
  obtain ⟨rfl, h⟩ := Prod.mk.inj e1
  obtain ⟨rfl, hj⟩ := Proc.scVector.inj h
  obtain rfl : j = j' := Fin.ext (congrArg Fin.val hj)
  obtain rfl : i = i' := Fin.ext e2
  rfl

theorem Px_T (d : Dev nD) : (bigSep Finset.univ fun q : Fin 1 => (P m).x q (SparseCore.T d)) = iprop(emp) := bigSep_univ_of_subsingleton (0 : Fin 1)
theorem Px_S (d : Dev nD) (c : Fin τ.nSC) : (bigSep Finset.univ fun q : Fin 1 => (P m).x q (S d c)) = iprop(emp) := bigSep_univ_of_subsingleton (0 : Fin 1)
theorem Px_V (d : Dev nD) (c : Fin τ.nSC) (i : Fin τ.nSub) : (bigSep Finset.univ fun q : Fin 1 => (P m).x q (V d c i)) = bkit m d c i :=
  bigSep_univ_of_subsingleton (0 : Fin 1)

/-- What every tile is handed alike: every barrier cell's invariant, and that each has reached round 0. -/
abbrev alike : sProp 𝕄 :=
  iprop((∃ κ : GSem nD τ sig → ℕ, bigSep Finset.univ fun x : DCI => cellInv EB (bRd m) (κ (bcell₃ x)) (bcell₃ x))
    ∗ bigSep Finset.univ fun x : DCI => reached EB (bcell₃ x) 0)
/-- What each tile is handed of its own: its position, its tokens, its credit. -/
abbrev mine (dci : DCI) : sProp 𝕄 :=
  iprop(atPos EB (bcell₃ dci) 0 ∅ 0
    ∗ (bigSep Finset.univ fun j : Fin (grid0.bound 1) => dutyTok EB (bcell dci.1 dci.2.1 (j.castLE hsub0)) 0 dci.2.2.val)
    ∗ cred (tallyAt (bcell₃ dci) (some 0) (grid0.bound 1)))

omit [FloatOps F] in
/-- Of a persistent family over all tiles, the members of one SparseCore. -/
theorem of_core (Φ : DCI → sProp 𝕄) [BI.Persistent (bigSep Finset.univ Φ)] (d : Dev nD) (c : Fin τ.nSC) :
    bigSep Finset.univ Φ ⊢ bigSep Finset.univ fun j : Fin (grid0.bound 1) => Φ (d, c, j.castLE hsub0) := by
  iintro H
  iapply (SparseCore.ent (deal_persistent (F := F) (R := bigSep Finset.univ Φ) (Finset.univ : Finset (Fin (grid0.bound 1))) (Φ := fun _ => iprop(emp)) fun j =>
    sep_elim_left.trans (bigSep_elim (Φ := Φ) (Finset.mem_univ (d, c, Fin.castLE hsub0 j)))))
  isplitl; · iexact H
  rw [bigSep_emp']; iempintro

/-- One tile's kit out of those. -/
theorem kit_intro (dci : DCI) : iprop(alike m ∗ mine dci) ⊢ (bkit m dci.1 dci.2.1 dci.2.2 : sProp 𝕄) := by
  obtain ⟨d, c, i⟩ := dci
  iintro ⟨⟨#Hinv, #Hr⟩, Hat, Htok, Hcred⟩
  unfold bkit
  isplitr
  · icases Hinv with ⟨%κ, Hinv⟩
    iexists κ
    iapply (of_core (fun x : DCI => cellInv EB (bRd m) (κ (bcell₃ x)) (bcell₃ x)) d c); iexact Hinv
  isplitl [Htok]; · iexact Htok
  isplitr
  · iapply (of_core (fun x : DCI => reached EB (bcell₃ x) 0) d c); iexact Hr
  isplitl [Hat]; · iexact Hat
  iexact Hcred

/-- Each tile its kit. -/
theorem kits_deal :
    iprop(alike m ∗ (bigSep Finset.univ fun x : DCI => atPos EB (bcell₃ x) 0 ∅ 0)
        ∗ (bigSep Finset.univ fun dci : DCI => bigSep Finset.univ fun j : Fin (grid0.bound 1) => dutyTok EB (bcell dci.1 dci.2.1 (j.castLE hsub0)) 0 dci.2.2.val)
        ∗ (bigSep Finset.univ fun dci : DCI => cred (tallyAt (bcell₃ dci) (some 0) (grid0.bound 1))))
      ⊢ (bigSep Finset.univ fun thr : Thread nD τ => bigSep Finset.univ fun q : Fin 1 => (P m).x q thr : sProp 𝕄) := by
  rw [SparseCore.Cfg.bigSep_threads (fun thr : Thread nD τ => bigSep Finset.univ fun q : Fin 1 => (P m).x q thr)]
  simp only [Px_T, Px_S, Px_V, bigSep_emp']
  iintro ⟨#Hsh, Hat, Htok, Hcred⟩
  isplitr; · iempintro
  isplitr; · iempintro
  iapply (deal_persistent (F := F) (R := alike m) (Finset.univ : Finset DCI) (Φ := mine (F := F)) fun dci => kit_intro m dci)
  isplitr; · iexact Hsh
  unfold mine
  rw [bigSep_sep', bigSep_sep']
  isplitl [Hat]; · iexact Hat
  isplitl [Htok]; · iexact Htok
  iexact Hcred

/-- What is held at the launch pays for the handshakes and the barrier. -/
theorem hu₀ : iprop(ownU (u₀ (F := F)) ∗ (P m).oxCred ∗ (K (F := F)).freeOn (· ∈ bCells))
    ⊢ |={Set.univ}=> iprop(BI.own (EH (initOf (K (F := F)).hsCells (K (F := F)).hsToks)) ∗ (bigSep Finset.univ fun _ : Dev nD => iprop(emp))
        ∗ (bigSep Finset.univ fun thr : Thread nD τ => bigSep Finset.univ fun q : Fin 1 => (P m).x q thr) : sProp 𝕄) := by
  unfold u₀
  iintro ⟨Hu, Hcred, Hfree⟩
  ihave H := (ownU_split _ _) $$ Hu
  icases H with ⟨HH, HB⟩
  imod (Rounds.fund EB (bRd m) bCells bToks) $$ HB with ⟨Hst, #Hr, Hat, Htok⟩
  ihave Hsems := (sems_b (F := F)) $$ Hfree
  imod (invs_b m) $$ [Hsems Hst] with ⟨%κ, #Hinv⟩
  · isplitl [Hsems] <;> iassumption
  ihave Hcred' := (creds_b m) $$ Hcred
  ihave Hinv' := (Entails.of_eq (bCells_eq (F := F) fun g => cellInv EB (bRd m) (κ g) g)) $$ Hinv
  ihave Hr' := (Entails.of_eq (bCells_eq (F := F) fun g => reached EB g 0)) $$ Hr
  ihave Hat' := (Entails.of_eq (bCells_eq (F := F) fun g => atPos EB g 0 ∅ 0)) $$ Hat
  ihave Htok' := (Entails.of_eq (toks_eq (F := F))) $$ Htok
  imodintro
  isplitl [HH]; · iexact HH
  isplitr; · rw [bigSep_emp']; iempintro
  iapply (kits_deal m)
  isplitr
  · isplitl; · iexists κ; iexact Hinv'
    iexact Hr'
  isplitl [Hat']; · iexact Hat'
  isplitl [Htok']; · iexact Htok'
  iexact Hcred'

/-! ## The run of @main -/

omit [FloatOps F] in
theorem unscopedBufs_eq (d : Dev nD) (W : (b : Ref sig .tc) → Buf (Elt F) ((d.tc : Thread nD τ).loc b)) :
    (unscopedBufs d W : sProp 𝕄) = iprop((xLoc d ↦{fullShare} W main_arg0) ∗ oLoc d ↦{fullShare} W main_v0) := by
  unfold unscopedBufs
  rw [show (Finset.univ.filter fun b : Ref sig .tc => ¬ b.isScoped) = {main_arg0, main_v0} by decide,
    SparseCore.bigSep_insert' (by decide), bigSep_singleton]

theorem st0_eq (d : Dev nD) : (bigSep Finset.univ fun c : Fin ((K (F := F)).nCore 0) => (P m).st 0 d c) = iprop(xPts m d ∗ oPts d (m (oLoc d))) := by
  rw [xPts_eq, oPts_eq]
  exact bigSep_sep' (Finset.univ : Finset (Fin 2)) (fun c => (xCore m d c.val : sProp 𝕄)) (fun c => oCore d c.val (m (oLoc d)))

/-- The barrier semaphores of both SparseCores, at zero. -/
abbrev allBars (d : Dev nD) : sProp 𝕄 := bigSep Finset.univ fun c : Fin ((K (F := F)).nCore 0) => bars d (coreOf c)

theorem dn0_eq (d : Dev nD) : (bigSep Finset.univ fun c : Fin ((K (F := F)).nCore 0) => (P m).dn 0 d c)
    = iprop((xPts m d ∗ oPts d (goal m d)) ∗ allBars d) := by
  rw [xPts_eq, oPts_eq]
  refine (bigSep_sep' (Finset.univ : Finset (Fin ((K (F := F)).nCore 0))) (fun c => iprop(xCore m d (coreOf c).val ∗ oCore d (coreOf c).val (goal m d))) (fun c => bars d (coreOf c))).trans ?_
  exact congrArg (fun X => iprop(X ∗ allBars d))
    (bigSep_sep' (Finset.univ : Finset (Fin 2)) (fun c => (xCore m d c.val : sProp 𝕄)) (fun c => oCore d c.val (goal m d)))

/-- What @main ends with: the input as it was, the result at the kernel's values, the barrier semaphores at zero. -/
abbrev FIN (d : Dev nD) : sProp 𝕄 := iprop(xPts m d ∗ oPts d (goal m d) ∗ allBars d)

/-- @main on device `d`'s TensorCore: the one call. -/
theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Ho⟩, Hts, -⟩, -⟩
  iapply ((K (F := F)).wp_run (D (F := F)) 𝒱 (EH := EH) (P := P m) κ d 0) $$ [Hst Hx Ho Hb Hts]
  isplitr; · iexact Hctx
  isplitl [Hst]; · iexact Hst
  isplitl [Hx Ho]
  · rw [st0_eq]
    isplitl [Hx]; · iexact Hx
    iexact Ho
  iintro ⟨Hst, Hdn⟩
  ihave Hdn' := (Entails.of_eq (dn0_eq m d)) $$ Hdn
  icases Hdn' with ⟨⟨Hx, Ho⟩, Hbars⟩
  imodintro
  isplitl [Hst]; · iexact Hst
  isplitr [Hb Hts]
  · isplitl [Hx]; · iexact Hx
    isplitl [Ho] <;> iassumption
  isplitl [Hb] <;> iassumption

/-- What the end says of a device: its input, its result, and its barrier semaphores. -/
def fq (d : Dev nD) (s' : Phys nD τ sig (Elt F)) : Prop :=
  s'.mem.mem (xLoc d) = m (xLoc d) ∧ s'.mem.mem (oLoc d) = goal m d
    ∧ ∀ (c : Fin ((K (F := F)).nCore 0)) (i : Fin ((K (F := F)).nSub 0)), s'.mem.sem (bcell d (coreOf c) ((K (F := F)).sub 0 i)) = 0

omit [FloatOps F] in
/-- A whole buffer held at `f` is at `f` in the memory. -/
theorem whole_read (ℓ : Loc nD τ sig) (f : Buf (Elt F) ℓ) (s' : Phys nD τ sig (Elt F)) : iprop((ℓ ↦{fullShare} f) ∗ SI s') ⊢ (⌜s'.mem.mem ℓ = f⌝ : sProp 𝕄) := by
  iintro ⟨H, HSI⟩
  ihave H := (SI_pointsTo_agree (st := s') (ℓ := ℓ) (I := Finset.univ) (q := fullShare) (f := f)) $$ [HSI H]
  · isplitl [HSI] <;> iassumption
  icases H with %h
  ipureintro; exact funext fun i => h i (Finset.mem_univ i)

/-- What @main leaves says so. -/
theorem hfin (d : Dev nD) (s' : Phys nD τ sig (Elt F)) : iprop(FIN m d ∗ SI s') ⊢ (⌜fq m d s'⌝ : sProp 𝕄) :=
  fun x hx => ⟨((sep_mono_left sep_elim_left).trans (whole_read _ _ s')) x hx,
    ((sep_mono_left (sep_elim_right.trans sep_elim_left)).trans (whole_read _ _ s')) x hx, fun c i =>
    ((sep_mono_left (sep_elim_right.trans (sep_elim_right.trans ((SparseCore.ent (bigSep_elim (Finset.mem_univ c))).trans
      (SparseCore.ent (bigSep_elim (Finset.mem_univ i))))))).trans (SparseCore.Cfg.semVal_zero_read _ s')) x hx⟩

/-- The cells taken at the launch end at zero. -/
theorem hA (s' : Phys nD τ sig (Elt F)) (h : ∀ d, fq m d s') (g : GSem nD τ sig) (hg : g ∈ bCells) : s'.mem.sem g = 0 := by
  obtain ⟨⟨d, c, i⟩, -, rfl⟩ := Finset.mem_image.mp hg
  exact (h d).2.2 ⟨c.val, c.isLt⟩ ⟨i.val, i.isLt⟩

/-! ## The program's run -/

/-- What every final state is to satisfy. -/
def QC : PUnit × MemSt nD τ sig (Elt F) → Prop := fun r =>
  (∀ c : Dev nD, r.2.mem (xLoc c) = m (xLoc c) ∧ r.2.mem (oLoc c) = goal m c) ∧ r.2.sem = fun _ => 0

/-- The program's run: the input is unchanged, the result is the columns' first largest rows, the semaphores are zero. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (hA := hA m) facts v₀
    (fun q hq => match q with | 0 => nomatch hq)
    (fun q _ => match q with | 0 => tileObl m facts)
    (fun q _ => match q with | 0 => vecSplit m)
    m ρ main (fun _ => iprop(emp)) (FIN m) (u₀ (F := F)) (hu₀ m) (hmain m ρ) (fq m) (hfin m) (QC m) (fun _ h hz => ⟨fun c => ⟨(h c).1, (h c).2.1⟩, hz⟩)

end Cert.Proof.Run

end
-- ==== Proof.Ref.lean ====
/-
  The reference's run.

  The reference is five host operations in a row: the numbers of the rows, minus infinity, place 0, and the two results
  of one reduction over the rows that carries a value and its place together. `run_main` states what every buffer holds
  when they are through; `answer_eq` reads the place, `arg_eq` the argument, which none of the five writes.
-/
module

public import proofs.«01_k».proof.Defs
public import proofs.«01_k».proof.Proof.Gen.ReferenceIdeal
public import Idealize.ShloMosaic.Lib.StableHlo.Run

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The operations, in order. -/
abbrev ops : List (HloOp τ sig (Elt F)) :=
  [ TRef.nullary main_call0.v0 (iotaInDim S16x256x256 32 1),
    TRef.nullary main_call0.cst (constant S_ .f32 0xFF800000#32),
    TRef.nullary main_call0.c (constantI S_ 32 0#32),
    TRef.quaternary (.of main_arg0) main_call0.v0 main_call0.cst main_call0.c main_call0.v1_0
      (fun x y u v j => (Host.argReduce reducer_argmax_f32_i32 x y u v reducesTo_S16x256x256_S16x256_d1 h_S_ j).1),
    TRef.quaternary (.of main_arg0) main_call0.v0 main_call0.cst main_call0.c main_call0.v1_1
      (fun x y u v j => (Host.argReduce reducer_argmax_f32_i32 x y u v reducesTo_S16x256x256_S16x256_d1 h_S_ j).2) ]

/-- The places the reference answers for the argument `x`. -/
def answer (x : S16x256x256.Idx → F .f32) : S16x256.Idx → BitVec 32 := fun j =>
  (Host.argReduce reducer_argmax_f32_i32 x (iotaInDim S16x256x256 32 1) (constant S_ .f32 0xFF800000#32)
    (constantI S_ 32 0#32) reducesTo_S16x256x256_S16x256_d1 h_S_ j).2

/-- The program is that row of operations. -/
theorem main_eq (d : Dev nD) : main (F := F) d = seq ops := by
  simp only [main, fn_argmax.body, seq, bind_assoc, pure_bind]

/-- What the result's buffer holds after the operations. -/
theorem answer_eq (V : Valuation τ sig (Elt F)) :
    after ops V (main_v0 : DevRef τ sig) = answer (V (main_arg0 : DevRef τ sig)) := by
  after_results_simp
  rfl

/-- None of them writes the argument. -/
theorem arg_eq (V : Valuation τ sig (Elt F)) : after ops V (main_arg0 : DevRef τ sig) = V (main_arg0 : DevRef τ sig) := by
  simp only [after_cons, after_nil]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨nullary_bufs_sub .., nullary_bufs_sub .., nullary_bufs_sub .., quaternary_bufs_sub .., quaternary_bufs_sub ..⟩

/-- Every run of the reference ends with the places in the result buffer and the argument as it was. -/
theorem run_main (m : (ℓ : Loc nD τ sig) → Buf (Elt F) ℓ) (ρ : Dev nD → PrngReg) :
    θ_run (defs (F := F)) (onTc (τ := τ) (main (F := F))) ⟨m, fun _ => 0, ρ⟩ fun r => ∀ c : Dev nD,
      r.2.mem ((c.tc : Thread nD τ).loc main_v0) = answer (m ((c.tc : Thread nD τ).loc main_arg0))
        ∧ r.2.mem ((c.tc : Thread nD τ).loc main_arg0) = m ((c.tc : Thread nD τ).loc main_arg0) :=
  (θ_run (defs (F := F)) _ _).mono
    (fun _ h c => ⟨(h c main_v0).trans (answer_eq _), (h c main_arg0).trans (arg_eq _)⟩)
    (run_seq scopedRefs_eq scopedSems_eq defs main (fun _ => ops) main_eq (fun _ => ops_sub) m ρ)

end Cert.Proof.Ref

end
-- ==== Proof.Bridge.lean ====
/-
  The kernel's result and the reference's are one at extended reals.

  Both programs keep a pair (a value and its place). Over the extended reals such pairs are ordered: the greater value
  wins, and of two equal values the one whose place is smaller. `Best S p` says that `p` is in the set of pairs `S` and no
  pair of `S` wins over it; a set has at most one such pair (`Best.unique`). The reference's fold keeps the best of all the
  pairs of a column (`fold_best`), whatever the order it meets them in. A tile's walk down its rows keeps the best of them,
  because the rows come in the order of their places (`scan_best`), and the last choice between both halves keeps the
  best of all (`join_best`). Minus infinity at place 0, from which all of them start, is in every one of the sets.
-/
module

public import proofs.«01_k».proof.Proof.Scan
public import proofs.«01_k».proof.Proof.Ref
public import Idealize.ShloMosaic.PureOps.Ideal.Laws
public import Idealize.ShloMosaic.PureOps.Reduce

@[expose] public section

noncomputable section

namespace Cert.Proof.Bridge

open Cert.Proof.Scan
open Idealize.ShloMosaic
open Idealize.ShloMosaic.ValueIdx

/-- A value and a place. -/
abbrev Pair : Type := EReal × BitVec 32

/-- `p` wins over `e`, or they are the same. -/
def Over (p e : Pair) : Prop := e.1 < p.1 ∨ (e.1 = p.1 ∧ p.2.toInt ≤ e.2.toInt)

/-- `p` is the winner of `S`. -/
def Best (S : Pair → Prop) (p : Pair) : Prop := S p ∧ ∀ e, S e → Over p e

theorem Over.refl (p : Pair) : Over p p := .inr ⟨rfl, le_rfl⟩

theorem Over.trans {p q r : Pair} (h : Over p q) (h' : Over q r) : Over p r := by
  rcases h with h | ⟨h, k⟩ <;> rcases h' with h' | ⟨h', k'⟩
  · exact .inl (h'.trans h)
  · exact .inl (h' ▸ h)
  · exact .inl (h ▸ h')
  · exact .inr ⟨h'.trans h, k.trans k'⟩

theorem Over.antisymm {p q : Pair} (h : Over p q) (h' : Over q p) : p = q := by
  rcases h with h | ⟨h, k⟩
  · rcases h' with h' | ⟨h', _⟩
    · exact absurd h (not_lt.mpr h'.le)
    · exact absurd h (not_lt.mpr h'.le)
  · rcases h' with h' | ⟨_, k'⟩
    · exact absurd h (ne_of_gt h')
    · exact Prod.ext h.symm (BitVec.eq_of_toInt_eq (le_antisymm k k'))

/-- A set has one winner. -/
theorem Best.unique {S : Pair → Prop} {p q : Pair} (h : Best S p) (h' : Best S q) : p = q :=
  (h.2 q h'.1).antisymm (h'.2 p h.1)

/-- The winner of a set that one more pair joins: whichever of the old winner and that pair wins. -/
theorem Best.keep {S : Pair → Prop} {p e : Pair} (h : Best S p) (he : Over p e) : Best (fun q => S q ∨ q = e) p :=
  ⟨.inl h.1, fun q hq => hq.elim (h.2 q) fun hq => hq ▸ he⟩

theorem Best.change {S : Pair → Prop} {p e : Pair} (h : Best S p) (he : Over e p) : Best (fun q => S q ∨ q = e) e :=
  ⟨.inr rfl, fun q hq => hq.elim (fun hq => he.trans (h.2 q hq)) fun hq => hq ▸ .refl e⟩

theorem Best.congr {S T : Pair → Prop} {p : Pair} (h : ∀ q, S q ↔ T q) (hp : Best S p) : Best T p :=
  ⟨(h p).mp hp.1, fun q hq => hp.2 q ((h q).mpr hq)⟩

/-- The pair everything starts from. -/
def start : Pair := (⊥, 0#32)

/-- The word of minus infinity is the least extended real. -/
theorem bottom : (Scalar.ofBits .f32 0xFF800000#32 : Ideal .f32) = (⊥ : EReal) := by
  show Ideal.ofBits .f32 0xFF800000#32 = ⊥
  simp [Ideal.ofBits, Ideal.ieee]

/-! ## The reference's fold -/

/-- The reference's reducer: the winner of two pairs. -/
theorem reducer_eq (a b : Pair) :
    Cert.ReferenceIdeal.reducer_argmax_f32_i32 (F := Ideal) a b
      = (if b.1 < a.1 then a.1 else b.1, if b.1 < a.1 ∨ (a.1 = b.1 ∧ a.2.toInt < b.2.toInt) then a.2 else b.2) := by
  unfold Cert.ReferenceIdeal.reducer_argmax_f32_i32
  simp only [Ideal.cmpf_def, Ideal.cmp, Scalar.select, IntOp.ori, IntOp.andi, IntOp.cmpi, BitVec.slt]
  by_cases h1 : b.1 < a.1 <;> by_cases h2 : a.1 = b.1 <;> by_cases h3 : a.2.toInt < b.2.toInt <;>
    simp [h1, h2, h3]

/-- One step of the reference's fold. -/
theorem reducer_best {S : Pair → Prop} {p : Pair} (h : Best S p) (e : Pair) :
    Best (fun q => S q ∨ q = e) (Cert.ReferenceIdeal.reducer_argmax_f32_i32 (F := Ideal) p e) := by
  rw [reducer_eq]
  rcases lt_trichotomy e.1 p.1 with h1 | h1 | h1
  · rw [if_pos h1, if_pos (.inl h1)]; exact h.keep (.inl h1)
  · rw [if_neg (by rw [h1]; exact lt_irrefl _)]
    by_cases h2 : p.2.toInt < e.2.toInt
    · rw [if_pos (.inr ⟨h1.symm, h2⟩), h1]; exact h.keep (.inr ⟨h1, h2.le⟩)
    · rw [if_neg (by rintro (h | ⟨_, h⟩); exact absurd h (by rw [h1]; exact lt_irrefl _); exact h2 h)]
      exact h.change (.inr ⟨h1.symm, not_lt.mp h2⟩)
  · rw [if_neg (not_lt.mpr h1.le), if_neg (by rintro (h | ⟨h, _⟩); exact absurd h (not_lt.mpr h1.le); exact absurd h (ne_of_lt h1))]
    exact h.change (.inl h1)

/-- The reference's fold over a list is the winner of the list's pairs and the pair it starts from. -/
theorem fold_best (l : List Pair) {S : Pair → Prop} {p : Pair} (h : Best S p) :
    Best (fun q => S q ∨ q ∈ l) (l.foldl (Cert.ReferenceIdeal.reducer_argmax_f32_i32 (F := Ideal)) p) := by
  induction l generalizing S p with
  | nil => exact h.congr fun q => by simp
  | cons e l ih => exact (ih (reducer_best h e)).congr fun q => by simp [or_assoc]

/-- The pairs of column `c` of batch `b`: those of the rows from `lo` up to `hi`, and the start. -/
def pairs (x : Cert.KernelIdeal.S16x256x256.Idx → EReal) (b : Fin 16) (c : Fin 256) (lo hi : ℕ) (q : Pair) : Prop :=
  q = start ∨ ∃ k : Fin 256, lo ≤ k.val ∧ k.val < hi ∧ q = (x (ix3 b k c), BitVec.ofNat 32 k.val)

/-- The kept axes of an index with row `k` inserted. -/
theorem lift_eq (h : Cert.ReferenceIdeal.S16x256x256.Reduces [1] Cert.ReferenceIdeal.S16x256)
    (b : Fin 16) (c : Fin 256) (k : Fin 256) :
    h.lift (ix2 b c : Cert.ReferenceIdeal.S16x256.Idx) k = (ix3 b k c : Cert.ReferenceIdeal.S16x256x256.Idx) := by
  funext a
  apply Fin.ext
  refine (h.lift_val (ix2 b c) k a).trans ?_
  fin_cases a <;> rfl

/-- What the reference folds over: the pairs of the column's 256 rows. -/
theorem mem_fiber (x : Cert.ReferenceIdeal.S16x256x256.Idx → EReal) (b : Fin 16) (c : Fin 256) (q : Pair) :
    q ∈ Host.argReduceFiber x (iotaInDim Cert.ReferenceIdeal.S16x256x256 32 1)
        Cert.ReferenceIdeal.Gen.reducesTo_S16x256x256_S16x256_d1 (ix2 b c)
      ↔ ∃ k : Fin 256, q = (x (ix3 b k c), BitVec.ofNat 32 k.val) := by
  have h : Cert.ReferenceIdeal.S16x256x256.Reduces [1] Cert.ReferenceIdeal.S16x256 := by decide
  unfold Host.argReduceFiber
  rw [Shape.ReducesTo.drop_eq_drop _ h]
  simp only [List.mem_map, List.mem_filter, List.mem_finRange, true_and, decide_eq_true_eq]
  constructor
  · rintro ⟨n, hn, rfl⟩
    obtain ⟨i, rfl⟩ : ∃ i, n = Cert.ReferenceIdeal.S16x256x256.rowMajor i := ⟨_, (Equiv.apply_symm_apply _ n).symm⟩
    rw [Equiv.symm_apply_apply] at hn ⊢
    have hi := h.lift_drop i
    rw [hn] at hi
    have hi' := (lift_eq h b c (i 1)).symm.trans hi
    refine ⟨i 1, ?_⟩
    rw [hi']
    rfl
  · rintro ⟨k, rfl⟩
    refine ⟨Cert.ReferenceIdeal.S16x256x256.rowMajor (ix3 b k c), ?_, ?_⟩
    · rw [Equiv.symm_apply_apply, ← lift_eq h b c k]
      exact h.drop_lift (ix2 b c) k
    · rw [Equiv.symm_apply_apply]; rfl

/-- The reference's place is the place of the winner of the column. -/
theorem answer_best (x : Cert.ReferenceIdeal.S16x256x256.Idx → EReal) (b : Fin 16) (c : Fin 256) :
    ∃ v, Best (pairs x b c 0 256) (v, Cert.Proof.Ref.answer (F := Ideal) x (ix2 b c)) := by
  unfold Cert.Proof.Ref.answer
  rw [Ideal.argReduce_eq_reduce2, Host.reduce2_eq_foldl_fiber]
  have hs : ((constant (F := Ideal) Cert.ReferenceIdeal.S_ .f32 0xFF800000#32) (Shape.Idx.first Cert.ReferenceIdeal.Gen.h_S_),
      (constantI Cert.ReferenceIdeal.S_ 32 0#32) (Shape.Idx.first Cert.ReferenceIdeal.Gen.h_S_)) = start := Prod.ext bottom rfl
  have h0 : Best (fun q => q = start) start := ⟨rfl, fun q hq => hq ▸ .refl _⟩
  refine ⟨_, Best.congr (fun q => ?_) (hs ▸ fold_best _ h0)⟩
  refine or_congr Iff.rfl ((mem_fiber x b c q).trans ⟨?_, ?_⟩)
  · rintro ⟨k, hk⟩
    exact ⟨k, k.val.zero_le, k.isLt, hk⟩
  · rintro ⟨k, _, _, hk⟩
    exact ⟨k, hk⟩

/-! ## A tile's walk -/

theorem place_toInt {k : ℕ} (h : k < 512) : (BitVec.ofNat 32 k).toInt = (k : ℤ) := by
  rw [BitVec.toInt_eq_toNat_of_lt] <;> rw [BitVec.toNat_ofNat, Nat.mod_eq_of_lt] <;> omega

/-- A walk's step: the new row's pair wins only if its value is greater, for its place is the last. -/
theorem step_best {S : Pair → Prop} {p : Pair} (h : Best S p) (e : Pair) (he : p.2.toInt ≤ e.2.toInt) :
    Best (fun q => S q ∨ q = e) (max e.1 p.1, Scalar.select (Ideal.cmp .ogt e.1 p.1) e.2 p.2) := by
  unfold Scalar.select Ideal.cmp
  by_cases h1 : p.1 < e.1
  · simp only [h1, decide_true, max_eq_left h1.le]
    exact h.change (.inl h1)
  · simp only [h1, decide_false, max_eq_right (not_lt.mp h1)]
    refine h.keep ?_
    rcases lt_or_eq_of_le (not_lt.mp h1) with h2 | h2
    · exact .inl h2
    · exact .inr ⟨h2, he⟩

/-- The places of the rows below `hi` are at most `hi`. -/
theorem pairs_place {x : Cert.KernelIdeal.S16x256x256.Idx → EReal} {b : Fin 16} {c : Fin 256} {lo hi : ℕ} {q : Pair}
    (h : pairs x b c lo hi q) : q.2.toInt ≤ (hi : ℤ) := by
  rcases h with rfl | ⟨k, _, hk, rfl⟩
  · show (0#32).toInt ≤ _
    simp
  · show (BitVec.ofNat 32 k.val).toInt ≤ _
    rw [place_toInt (by omega)]; omega

/-- Row `k` of a tile's copy is row `128 h + k` of the batch. -/
theorem column_eq (x : Cert.KernelIdeal.S16x256x256.Idx → EReal) (b : Fin 16) (c : Fin 256) (h k : ℕ) (hh : h < 2) (hk : k < 128) :
    column (F := Ideal) (rows (F := Ideal) x b.val h) c k = x (ix3 b ⟨128 * h + k, by omega⟩ c) := by
  unfold column rows
  congr 1
  have h1 : b.val % 16 = b.val := Nat.mod_eq_of_lt b.isLt
  have h2 : (128 * h + k % 128) % 256 = 128 * h + k := by omega
  funext a
  apply Fin.ext
  fin_cases a
  · exact h1
  · exact h2
  · rfl

/-- After `k` rows a walk holds the winner of those rows and the start. -/
theorem scan_best (x : Cert.KernelIdeal.S16x256x256.Idx → EReal) (b : Fin 16) (c : Fin 256) (h : ℕ) (hh : h < 2) (k : ℕ) (hk : k ≤ 128) :
    Best (pairs x b c (128 * h) (128 * h + k)) (scan (F := Ideal) (column (F := Ideal) (rows (F := Ideal) x b.val h) c) (128 * h) k) := by
  induction k with
  | zero =>
    have e : scan (F := Ideal) (column (F := Ideal) (rows (F := Ideal) x b.val h) c) (128 * h) 0 = start := Prod.ext bottom rfl
    rw [e]
    refine ⟨.inl rfl, ?_⟩
    rintro q (rfl | ⟨k, h1, h2, _⟩)
    · exact .refl _
    · omega
  | succ k ih =>
    have hp := ih (by omega)
    have hs := step_best hp (x (ix3 b ⟨128 * h + k, by omega⟩ c), BitVec.ofNat 32 (128 * h + k))
      (by rw [place_toInt (by omega)]; exact_mod_cast pairs_place hp.1)
    rw [← column_eq x b c h k hh (by omega)] at hs
    refine Best.congr (fun q => ?_) hs
    rw [column_eq x b c h k hh (by omega)]
    constructor
    · rintro ((hq | ⟨j, h1, h2, hq⟩) | hq)
      · exact .inl hq
      · exact .inr ⟨j, h1, by omega, hq⟩
      · exact .inr ⟨⟨128 * h + k, by omega⟩, by simp, by simp, hq⟩
    · rintro (hq | ⟨j, h1, h2, hq⟩)
      · exact .inl (.inl hq)
      · by_cases hj : j.val = 128 * h + k
        · refine .inr ?_
          have : j = ⟨128 * h + k, by omega⟩ := Fin.ext hj
          rw [hq, this]
        · exact .inl (.inr ⟨j, h1, by omega, hq⟩)

/-- The choice between both halves is the winner of the column. -/
theorem join_best (x : Cert.KernelIdeal.S16x256x256.Idx → EReal) (b : Fin 16) (c : Fin 256) :
    ∃ v, Best (pairs x b c 0 256) (v, out (F := Ideal) x b.val c) := by
  have h0 := scan_best x b c 0 (by omega) 128 le_rfl
  have h1 := scan_best x b c 1 (by omega) 128 le_rfl
  change Best (pairs x b c 0 128) (half (F := Ideal) x b.val 0 c) at h0
  change Best (pairs x b c 128 256) (half (F := Ideal) x b.val 1 c) at h1
  unfold out
  generalize half (F := Ideal) x b.val 0 c = p at h0 ⊢
  generalize half (F := Ideal) x b.val 1 c = q at h1 ⊢
  have split : ∀ e, pairs x b c 0 256 e ↔ pairs x b c 0 128 e ∨ pairs x b c 128 256 e := by
    intro e
    constructor
    · rintro (he | ⟨k, _, h2, he⟩)
      · exact .inl (.inl he)
      · by_cases hk : k.val < 128
        · exact .inl (.inr ⟨k, by omega, hk, he⟩)
        · exact .inr (.inr ⟨k, by omega, h2, he⟩)
    · rintro ((he | ⟨k, h1, h2, he⟩) | (he | ⟨k, h1, h2, he⟩))
      · exact .inl he
      · exact .inr ⟨k, by omega, by omega, he⟩
      · exact .inl he
      · exact .inr ⟨k, by omega, by omega, he⟩
  rw [Ideal.cmpf_def]
  unfold Scalar.select Ideal.cmp
  by_cases hl : p.1 < q.1
  · simp only [hl, decide_true]
    refine ⟨q.1, (split q).mpr (.inr h1.1), fun e he => ?_⟩
    rcases (split e).mp he with he | he
    · exact Over.trans (.inl hl) (h0.2 e he)
    · exact h1.2 e he
  · simp only [hl, decide_false]
    have hpq : Over p q := by
      rcases h1.1 with hq | ⟨k, hk, _, hq⟩
      · exact h0.2 q (.inl hq)
      · rcases lt_or_eq_of_le (not_lt.mp hl) with h2 | h2
        · exact .inl h2
        · refine .inr ⟨h2, ?_⟩
          have := pairs_place h0.1
          rw [hq, place_toInt (by omega)]
          omega
    refine ⟨p.1, (split p).mpr (.inl h0.1), fun e he => ?_⟩
    rcases (split e).mp he with he | he
    · exact h0.2 e he
    · exact hpq.trans (h1.2 e he)

/-- The kernel's places are the reference's. -/
theorem result_eq (x : Cert.KernelIdeal.S16x256x256.Idx → EReal) :
    result (F := Ideal) x = Cert.Proof.Ref.answer (F := Ideal) x := by
  funext y
  obtain ⟨b, c, rfl⟩ : ∃ (b : Fin 16) (c : Fin 256), y = ix2 b c := ⟨y 0, y 1, by funext a; fin_cases a <;> rfl⟩
  obtain ⟨v, hv⟩ := join_best x b c
  obtain ⟨w, hw⟩ := answer_best x b c
  have e : out (F := Ideal) x b.val c = Cert.Proof.Ref.answer (F := Ideal) x (ix2 b c) := (Prod.mk.inj (hv.unique hw)).2
  have e' : result (F := Ideal) x (ix2 b c) = out (F := Ideal) x b.val c := rfl
  exact e'.trans e

end Cert.Proof.Bridge

end
-- ==== Proof.lean ====
/-
  The certificate's claims, put together.

  The kernel's run is one theorem over any floats (`Proof.Launch`, `run_main`): it is the frame of the kernel at bit patterns and
  at extended reals, and it names the kernel's result. The reference's run is `Proof.Ref`; that both results are one function of
  the argument is `Proof.Bridge`. The idealization rewrites nothing, so `preserves` asks for nothing.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Launch
public import proofs.«01_k».proof.Proof.Ref
public import proofs.«01_k».proof.Proof.Bridge
public import Idealize.ShloMosaic.Adequacy
public import Idealize.ShloMosaic.Init
public import Idealize.ShloMosaic.Lib.Quiescent

@[expose] public section

noncomputable section

namespace Cert.Proof

open Idealize.ShloMosaic Idealize.SL.Sem

/-- The kernel at bit patterns ends, its input unchanged and every counter zero. The two printed programs are one text, so the run
    stated for one of them is the other's. -/
theorem frame_kernel : Cert.quiescent_Kernel := fun m ρ _ =>
  (θ_run (Cert.KernelIdeal.defs (F := Bits)) _ _).mono (fun _ h => ⟨fun c => (h.1 c).1, h.2⟩) (Run.run_main (F := Bits) m ρ)

/-- The same at extended reals. -/
theorem frame_kernelIdeal : Cert.quiescent_KernelIdeal := fun m ρ _ =>
  (θ_run (Cert.KernelIdeal.defs (F := Ideal)) _ _).mono (fun _ h => ⟨fun c => (h.1 c).1, h.2⟩) (Run.run_main (F := Ideal) m ρ)

/-- The reference ends, its input unchanged; it declares no semaphore. -/
theorem frame_reference : Cert.quiescent_ReferenceIdeal := fun m ρ _ =>
  (θ_run (Cert.ReferenceIdeal.defs (F := Ideal)) _ _).mono
    (fun r h => ⟨fun c => (h c).2, sem_eq_zero_of_no_sems (by decide) r.2⟩) (Ref.run_main (F := Ideal) m ρ)

/-- From the same input both programs end with the same result. -/
theorem same_result : Cert.algebraic_KernelIdeal_ReferenceIdeal := by
  intro m ρ m' ρ' _ hagree
  refine ⟨fun c => Run.goal m c, ?_, ?_⟩
  · exact (θ_run (Cert.KernelIdeal.defs (F := Ideal)) _ _).mono (fun _ h c => ⟨(h.1 c).2, (h.1 c).1⟩) (Run.run_main (F := Ideal) m ρ)
  · refine (θ_run (Cert.ReferenceIdeal.defs (F := Ideal)) _ _).mono (fun _ h c => ⟨(h c).1.trans ?_, (h c).2⟩)
      (Ref.run_main (F := Ideal) m' ρ')
    exact (congrArg (Ref.answer (F := Ideal)) (hagree c)).trans (Bridge.result_eq _).symm

theorem claim : Cert.Claim := ⟨Cert.Kernel.Gen.facts, Cert.KernelIdeal.Gen.facts, Cert.ReferenceIdeal.Gen.facts,
  frame_kernel, frame_kernelIdeal, frame_reference, trivial, same_result⟩

end Cert.Proof

end
